-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x64 : Shape := ⟨2, ![65536, 64]⟩
abbrev S8x1024x64 : Shape := ⟨3, ![8, 1024, 64]⟩
abbrev S_ : Shape := ⟨0, ![]⟩

class Facts : Prop where
  reducesTo_S65536x64_S_d0_1 : S65536x64.ReducesTo [0, 1] S_
  h_S_ : 0 < S_.numel
  reducesTo_S8x1024x64_S_d0_1_2 : S8x1024x64.ReducesTo [0, 1, 2] S_

variable [Facts]

def fn {F : FTy → Type} [FloatOps F] (main_arg0 : FVec F S65536x64 .f32) (main_arg1 : FVec F S8x1024x64 .f32) : IVec S_ 1 :=
  let main_v0 : FVec F S65536x64 .f32 := Host.absf main_arg0
  let main_cst : FVec F S_ .f32 := constant S_ .f32 0xFF800000#32
  let main_v1 : FVec F S_ .f32 := (fun x v => Host.reduce FloatOps.maximumf x v reducesTo_S65536x64_S_d0_1 h_S_) main_v0 main_cst
  let main_cst_0 : FVec F S_ .f32 := constant S_ .f32 0x7F800000#32
  let main_v2 : IVec S_ 1 := cmpf .olt main_v1 main_cst_0
  let main_v3 : FVec F S8x1024x64 .f32 := Host.absf main_arg1
  let main_cst_1 : FVec F S_ .f32 := constant S_ .f32 0xFF800000#32
  let main_v4 : FVec F S_ .f32 := (fun x v => Host.reduce FloatOps.maximumf x v reducesTo_S8x1024x64_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  main_v6
-- ==== Kernel.lean ====
abbrev S65536x64 : Shape := ⟨2, ![65536, 64]⟩
abbrev S8x1024x64 : Shape := ⟨3, ![8, 1024, 64]⟩
abbrev S65536x8 : Shape := ⟨2, ![65536, 8]⟩
abbrev S1x8 : Shape := ⟨2, ![1, 8]⟩
abbrev S1024x64 : Shape := ⟨2, ![1024, 64]⟩
abbrev S1024x8 : Shape := ⟨2, ![1024, 8]⟩
abbrev S8x1024x192 : Shape := ⟨3, ![8, 1024, 192]⟩
abbrev S8x1x1024 : Shape := ⟨3, ![8, 1, 1024]⟩
abbrev S1x1024x64 : Shape := ⟨3, ![1, 1024, 64]⟩
abbrev S1024x192 : Shape := ⟨2, ![1024, 192]⟩
abbrev S1x1024x192 : Shape := ⟨3, ![1, 1024, 192]⟩
abbrev S1024 : Shape := ⟨1, ![1024]⟩
abbrev S1x1024 : Shape := ⟨2, ![1, 1024]⟩
abbrev S1x1x1024 : Shape := ⟨3, ![1, 1, 1024]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩
abbrev S512x192 : Shape := ⟨2, ![512, 192]⟩
abbrev S1x512x1 : Shape := ⟨3, ![1, 512, 1]⟩
abbrev S1 : Shape := ⟨1, ![1]⟩
abbrev S1x1x1 : Shape := ⟨3, ![1, 1, 1]⟩
abbrev S1x512x64 : Shape := ⟨3, ![1, 512, 64]⟩
abbrev S512x8 : Shape := ⟨2, ![512, 8]⟩
abbrev S8 : Shape := ⟨1, ![8]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S65536x64, .f32⟩
  | .hbm, ⟨1, _⟩ => ⟨S8x1024x64, .f32⟩
  | .hbm, ⟨2, _⟩ => ⟨S65536x64, .f32⟩
  | .hbm, ⟨3, _⟩ => ⟨S65536x8, .i32⟩
  | .hbm, ⟨4, _⟩ => ⟨S1x8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S8x1024x64, .f32⟩
  | .local _ .vmem, ⟨3, _⟩ => ⟨S1024x64, .f32⟩
  | .local _ .vmem, ⟨4, _⟩ => ⟨S1024x64, .f32⟩
  | .local _ .vmem, ⟨5, _⟩ => ⟨S1024x8, .i32⟩
  | .local _ .vmem, ⟨6, _⟩ => ⟨S1024x8, .i32⟩
  | .local _ .vmem, ⟨7, _⟩ => ⟨S1x8, .f32⟩
  | .local _ .vmem, ⟨8, _⟩ => ⟨S8x1024x64, .bf16⟩
  | .local _ .vmem, ⟨9, _⟩ => ⟨S8x1024x192, .bf16⟩
  | .local _ .vmem, ⟨10, _⟩ => ⟨S8x1x1024, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S65536x64 : Shape := ⟨2, ![65536, 64]⟩
abbrev S8x1024x64 : Shape := ⟨3, ![8, 1024, 64]⟩
abbrev S_ : Shape := ⟨0, ![]⟩
abbrev S1x1024x64 : Shape := ⟨3, ![1, 1024, 64]⟩
abbrev S1024x64 : Shape := ⟨2, ![1024, 64]⟩
abbrev S65536 : Shape := ⟨1, ![65536]⟩
abbrev S65536x1 : Shape := ⟨2, ![65536, 1]⟩
abbrev S1024 : Shape := ⟨1, ![1024]⟩
abbrev S64x1024 : Shape := ⟨2, ![64, 1024]⟩
abbrev S65536x1024 : Shape := ⟨2, ![65536, 1024]⟩
abbrev S1x1024 : Shape := ⟨2, ![1, 1024]⟩
abbrev S1 : Shape := ⟨1, ![1]⟩
abbrev S1x1 : Shape := ⟨2, ![1, 1]⟩
abbrev S65536x8 : Shape := ⟨2, ![65536, 8]⟩
abbrev S8 : Shape := ⟨1, ![8]⟩

abbrev nBuf : Space → Nat
  | .hbm => 498
  | .vmem => 0
  | .smem => 0
  | _ => 0

abbrev hbmTy0_0 (i : Nat) : BufTy := match i % 128 with
  | 0 => ⟨S65536x64, .f32⟩
  | 1 => ⟨S8x1024x64, .f32⟩
  | 2 => ⟨S_, .f32⟩
  | 3 => ⟨S65536x64, .f32⟩
  | 4 => ⟨S1x1024x64, .f32⟩
  | 5 => ⟨S1024x64, .f32⟩
  | 6 => ⟨S65536x64, .f32⟩
  | 7 => ⟨S_, .f32⟩
  | 8 => ⟨S65536, .f32⟩
  | 9 => ⟨S65536x1, .f32⟩
  | 10 => ⟨S1024x64, .f32⟩
  | 11 => ⟨S_, .f32⟩
  | 12 => ⟨S1024, .f32⟩
  | 13 => ⟨S64x1024, .f32⟩
  | 14 => ⟨S65536x1024, .f32⟩
  | 15 => ⟨S_, .f32⟩
  | 16 => ⟨S65536x1024, .f32⟩
  | 17 => ⟨S65536x1024, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x1024, .i32⟩
  | 24 => ⟨S_, .f32⟩
  | 25 => ⟨S_, .i32⟩
  | 26 => ⟨S65536, .f32⟩
  | 27 => ⟨S65536, .i32⟩
  | 28 => ⟨S_, .i32⟩
  | 29 => ⟨S65536, .i32⟩
  | 30 => ⟨S65536, .i1⟩
  | 31 => ⟨S_, .i32⟩
  | 32 => ⟨S65536, .i32⟩
  | 33 => ⟨S65536, .i32⟩
  | 34 => ⟨S65536, .i32⟩
  | 35 => ⟨S65536x1, .i32⟩
  | 36 => ⟨S1, .i32⟩
  | 37 => ⟨S_, .i32⟩
  | 38 => ⟨S65536x1, .i32⟩
  | 39 => ⟨S65536x1, .i1⟩
  | 40 => ⟨S1x1, .i32⟩
  | 41 => ⟨S65536x1, .i32⟩
  | 42 => ⟨S65536x1, .i1⟩
  | 43 => ⟨S65536x1, .i1⟩
  | 44 => ⟨S_, .i1⟩
  | 45 => ⟨S65536, .i1⟩
  | 46 => ⟨S65536x64, .f32⟩
  | 47 => ⟨S65536x64, .i1⟩
  | 48 => ⟨S_, .f32⟩
  | 49 => ⟨S65536x64, .f32⟩
  | 50 => ⟨S65536x64, .f32⟩
  | 51 => ⟨S65536x64, .f32⟩
  | 52 => ⟨S65536x64, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S65536x64, .f32⟩
  | 60 => ⟨S65536x64, .f32⟩
  | 61 => ⟨S65536x64, .f32⟩
  | 62 => ⟨S65536x64, .f32⟩
  | 63 => ⟨S1x1024x64, .f32⟩
  | 64 => ⟨S1024x64, .f32⟩
  | 65 => ⟨S65536x64, .f32⟩
  | 66 => ⟨S_, .f32⟩
  | 67 => ⟨S65536, .f32⟩
  | 68 => ⟨S65536x1, .f32⟩
  | 69 => ⟨S1024x64, .f32⟩
  | 70 => ⟨S_, .f32⟩
  | 71 => ⟨S1024, .f32⟩
  | 72 => ⟨S64x1024, .f32⟩
  | 73 => ⟨S65536x1024, .f32⟩
  | 74 => ⟨S_, .f32⟩
  | 75 => ⟨S65536x1024, .f32⟩
  | 76 => ⟨S65536x1024, .f32⟩
  | 77 => ⟨S65536x1024, .f32⟩
  | 78 => ⟨S65536x1024, .f32⟩
  | 79 => ⟨S1x1024, .f32⟩
  | 80 => ⟨S65536x1024, .f32⟩
  | 81 => ⟨S65536x1024, .f32⟩
  | 82 => ⟨S65536x1024, .i32⟩
  | 83 => ⟨S_, .f32⟩
  | 84 => ⟨S_, .i32⟩
  | 85 => ⟨S65536, .f32⟩
  | 86 => ⟨S65536, .i32⟩
  | 87 => ⟨S_, .i32⟩
  | 88 => ⟨S65536, .i32⟩
  | 89 => ⟨S65536, .i1⟩
  | 90 => ⟨S_, .i32⟩
  | 91 => ⟨S65536, .i32⟩
  | 92 => ⟨S65536, .i32⟩
  | 93 => ⟨S65536, .i32⟩
  | 94 => ⟨S65536x1, .i32⟩
  | 95 => ⟨S1, .i32⟩
  | 96 => ⟨S_, .i32⟩
  | 97 => ⟨S65536x1, .i32⟩
  | 98 => ⟨S65536x1, .i1⟩
  | 99 => ⟨S1x1, .i32⟩
  | 100 => ⟨S65536x1, .i32⟩
  | 101 => ⟨S65536x1, .i1⟩
  | 102 => ⟨S65536x1, .i1⟩
  | 103 => ⟨S_, .i1⟩
  | 104 => ⟨S65536, .i1⟩
  | 105 => ⟨S65536x64, .f32⟩
  | 106 => ⟨S65536x64, .i1⟩
  | 107 => ⟨S_, .f32⟩
  | 108 => ⟨S65536x64, .f32⟩
  | 109 => ⟨S65536x64, .f32⟩
  | 110 => ⟨S65536x64, .f32⟩
  | 111 => ⟨S65536x64, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S65536x64, .f32⟩
  | 119 => ⟨S65536x64, .f32⟩
  | 120 => ⟨S65536x64, .f32⟩
  | 121 => ⟨S65536x64, .f32⟩
  | 122 => ⟨S1x1024x64, .f32⟩
  | 123 => ⟨S1024x64, .f32⟩
  | 124 => ⟨S65536x64, .f32⟩
  | 125 => ⟨S_, .f32⟩
  | 126 => ⟨S65536, .f32⟩
  | 127 => ⟨S65536x1, .f32⟩
  | _ => ⟨S65536x64, .f32⟩

abbrev hbmTy0_1 (i : Nat) : BufTy := match i % 128 with
  | 0 => ⟨S1024x64, .f32⟩
  | 1 => ⟨S_, .f32⟩
  | 2 => ⟨S1024, .f32⟩
  | 3 => ⟨S64x1024, .f32⟩
  | 4 => ⟨S65536x1024, .f32⟩
  | 5 => ⟨S_, .f32⟩
  | 6 => ⟨S65536x1024, .f32⟩
  | 7 => ⟨S65536x1024, .f32⟩
  | 8 => ⟨S65536x1024, .f32⟩
  | 9 => ⟨S65536x1024, .f32⟩
  | 10 => ⟨S1x1024, .f32⟩
  | 11 => ⟨S65536x1024, .f32⟩
  | 12 => ⟨S65536x1024, .f32⟩
  | 13 => ⟨S65536x1024, .i32⟩
  | 14 => ⟨S_, .f32⟩
  | 15 => ⟨S_, .i32⟩
  | 16 => ⟨S65536, .f32⟩
  | 17 => ⟨S65536, .i32⟩
  | 18 => ⟨S_, .i32⟩
  | 19 => ⟨S65536, .i32⟩
  | 20 => ⟨S65536, .i1⟩
  | 21 => ⟨S_, .i32⟩
  | 22 => ⟨S65536, .i32⟩
  | 23 => ⟨S65536, .i32⟩
  | 24 => ⟨S65536, .i32⟩
  | 25 => ⟨S65536x1, .i32⟩
  | 26 => ⟨S1, .i32⟩
  | 27 => ⟨S_, .i32⟩
  | 28 => ⟨S65536x1, .i32⟩
  | 29 => ⟨S65536x1, .i1⟩
  | 30 => ⟨S1x1, .i32⟩
  | 31 => ⟨S65536x1, .i32⟩
  | 32 => ⟨S65536x1, .i1⟩
  | 33 => ⟨S65536x1, .i1⟩
  | 34 => ⟨S_, .i1⟩
  | 35 => ⟨S65536, .i1⟩
  | 36 => ⟨S65536x64, .f32⟩
  | 37 => ⟨S65536x64, .i1⟩
  | 38 => ⟨S_, .f32⟩
  | 39 => ⟨S65536x64, .f32⟩
  | 40 => ⟨S65536x64, .f32⟩
  | 41 => ⟨S65536x64, .f32⟩
  | 42 => ⟨S65536x64, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S65536x64, .f32⟩
  | 50 => ⟨S65536x64, .f32⟩
  | 51 => ⟨S65536x64, .f32⟩
  | 52 => ⟨S65536x64, .f32⟩
  | 53 => ⟨S1x1024x64, .f32⟩
  | 54 => ⟨S1024x64, .f32⟩
  | 55 => ⟨S65536x64, .f32⟩
  | 56 => ⟨S_, .f32⟩
  | 57 => ⟨S65536, .f32⟩
  | 58 => ⟨S65536x1, .f32⟩
  | 59 => ⟨S1024x64, .f32⟩
  | 60 => ⟨S_, .f32⟩
  | 61 => ⟨S1024, .f32⟩
  | 62 => ⟨S64x1024, .f32⟩
  | 63 => ⟨S65536x1024, .f32⟩
  | 64 => ⟨S_, .f32⟩
  | 65 => ⟨S65536x1024, .f32⟩
  | 66 => ⟨S65536x1024, .f32⟩
  | 67 => ⟨S65536x1024, .f32⟩
  | 68 => ⟨S65536x1024, .f32⟩
  | 69 => ⟨S1x1024, .f32⟩
  | 70 => ⟨S65536x1024, .f32⟩
  | 71 => ⟨S65536x1024, .f32⟩
  | 72 => ⟨S65536x1024, .i32⟩
  | 73 => ⟨S_, .f32⟩
  | 74 => ⟨S_, .i32⟩
  | 75 => ⟨S65536, .f32⟩
  | 76 => ⟨S65536, .i32⟩
  | 77 => ⟨S_, .i32⟩
  | 78 => ⟨S65536, .i32⟩
  | 79 => ⟨S65536, .i1⟩
  | 80 => ⟨S_, .i32⟩
  | 81 => ⟨S65536, .i32⟩
  | 82 => ⟨S65536, .i32⟩
  | 83 => ⟨S65536, .i32⟩
  | 84 => ⟨S65536x1, .i32⟩
  | 85 => ⟨S1, .i32⟩
  | 86 => ⟨S_, .i32⟩
  | 87 => ⟨S65536x1, .i32⟩
  | 88 => ⟨S65536x1, .i1⟩
  | 89 => ⟨S1x1, .i32⟩
  | 90 => ⟨S65536x1, .i32⟩
  | 91 => ⟨S65536x1, .i1⟩
  | 92 => ⟨S65536x1, .i1⟩
  | 93 => ⟨S_, .i1⟩
  | 94 => ⟨S65536, .i1⟩
  | 95 => ⟨S65536x64, .f32⟩
  | 96 => ⟨S65536x64, .i1⟩
  | 97 => ⟨S_, .f32⟩
  | 98 => ⟨S65536x64, .f32⟩
  | 99 => ⟨S65536x64, .f32⟩
  | 100 => ⟨S65536x64, .f32⟩
  | 101 => ⟨S65536x64, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S65536x64, .f32⟩
  | 109 => ⟨S65536x64, .f32⟩
  | 110 => ⟨S65536x64, .f32⟩
  | 111 => ⟨S65536x64, .f32⟩
  | 112 => ⟨S1x1024x64, .f32⟩
  | 113 => ⟨S1024x64, .f32⟩
  | 114 => ⟨S65536x64, .f32⟩
  | 115 => ⟨S_, .f32⟩
  | 116 => ⟨S65536, .f32⟩
  | 117 => ⟨S65536x1, .f32⟩
  | 118 => ⟨S1024x64, .f32⟩
  | 119 => ⟨S_, .f32⟩
  | 120 => ⟨S1024, .f32⟩
  | 121 => ⟨S64x1024, .f32⟩
  | 122 => ⟨S65536x1024, .f32⟩
  | 123 => ⟨S_, .f32⟩
  | 124 => ⟨S65536x1024, .f32⟩
  | 125 => ⟨S65536x1024, .f32⟩
  | 126 => ⟨S65536x1024, .f32⟩
  | 127 => ⟨S65536x1024, .f32⟩
  | _ => ⟨S65536x64, .f32⟩

abbrev hbmTy0_2 (i : Nat) : BufTy := match i % 128 with
  | 0 => ⟨S1x1024, .f32⟩
  | 1 => ⟨S65536x1024, .f32⟩
  | 2 => ⟨S65536x1024, .f32⟩
  | 3 => ⟨S65536x1024, .i32⟩
  | 4 => ⟨S_, .f32⟩
  | 5 => ⟨S_, .i32⟩
  | 6 => ⟨S65536, .f32⟩
  | 7 => ⟨S65536, .i32⟩
  | 8 => ⟨S_, .i32⟩
  | 9 => ⟨S65536, .i32⟩
  | 10 => ⟨S65536, .i1⟩
  | 11 => ⟨S_, .i32⟩
  | 12 => ⟨S65536, .i32⟩
  | 13 => ⟨S65536, .i32⟩
  | 14 => ⟨S65536, .i32⟩
  | 15 => ⟨S65536x1, .i32⟩
  | 16 => ⟨S1, .i32⟩
  | 17 => ⟨S_, .i32⟩
  | 18 => ⟨S65536x1, .i32⟩
  | 19 => ⟨S65536x1, .i1⟩
  | 20 => ⟨S1x1, .i32⟩
  | 21 => ⟨S65536x1, .i32⟩
  | 22 => ⟨S65536x1, .i1⟩
  | 23 => ⟨S65536x1, .i1⟩
  | 24 => ⟨S_, .i1⟩
  | 25 => ⟨S65536, .i1⟩
  | 26 => ⟨S65536x64, .f32⟩
  | 27 => ⟨S65536x64, .i1⟩
  | 28 => ⟨S_, .f32⟩
  | 29 => ⟨S65536x64, .f32⟩
  | 30 => ⟨S65536x64, .f32⟩
  | 31 => ⟨S65536x64, .f32⟩
  | 32 => ⟨S65536x64, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S65536x64, .f32⟩
  | 40 => ⟨S65536x64, .f32⟩
  | 41 => ⟨S65536x64, .f32⟩
  | 42 => ⟨S65536x64, .f32⟩
  | 43 => ⟨S1x1024x64, .f32⟩
  | 44 => ⟨S1024x64, .f32⟩
  | 45 => ⟨S65536x64, .f32⟩
  | 46 => ⟨S_, .f32⟩
  | 47 => ⟨S65536, .f32⟩
  | 48 => ⟨S65536x1, .f32⟩
  | 49 => ⟨S1024x64, .f32⟩
  | 50 => ⟨S_, .f32⟩
  | 51 => ⟨S1024, .f32⟩
  | 52 => ⟨S64x1024, .f32⟩
  | 53 => ⟨S65536x1024, .f32⟩
  | 54 => ⟨S_, .f32⟩
  | 55 => ⟨S65536x1024, .f32⟩
  | 56 => ⟨S65536x1024, .f32⟩
  | 57 => ⟨S65536x1024, .f32⟩
  | 58 => ⟨S65536x1024, .f32⟩
  | 59 => ⟨S1x1024, .f32⟩
  | 60 => ⟨S65536x1024, .f32⟩
  | 61 => ⟨S65536x1024, .f32⟩
  | 62 => ⟨S65536x1024, .i32⟩
  | 63 => ⟨S_, .f32⟩
  | 64 => ⟨S_, .i32⟩
  | 65 => ⟨S65536, .f32⟩
  | 66 => ⟨S65536, .i32⟩
  | 67 => ⟨S_, .i32⟩
  | 68 => ⟨S65536, .i32⟩
  | 69 => ⟨S65536, .i1⟩
  | 70 => ⟨S_, .i32⟩
  | 71 => ⟨S65536, .i32⟩
  | 72 => ⟨S65536, .i32⟩
  | 73 => ⟨S65536, .i32⟩
  | 74 => ⟨S65536x1, .i32⟩
  | 75 => ⟨S1, .i32⟩
  | 76 => ⟨S_, .i32⟩
  | 77 => ⟨S65536x1, .i32⟩
  | 78 => ⟨S65536x1, .i1⟩
  | 79 => ⟨S1x1, .i32⟩
  | 80 => ⟨S65536x1, .i32⟩
  | 81 => ⟨S65536x1, .i1⟩
  | 82 => ⟨S65536x1, .i1⟩
  | 83 => ⟨S_, .i1⟩
  | 84 => ⟨S65536, .i1⟩
  | 85 => ⟨S65536x64, .f32⟩
  | 86 => ⟨S65536x64, .i1⟩
  | 87 => ⟨S_, .f32⟩
  | 88 => ⟨S65536x64, .f32⟩
  | 89 => ⟨S65536x64, .f32⟩
  | 90 => ⟨S65536x64, .f32⟩
  | 91 => ⟨S65536x64, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S65536x64, .f32⟩
  | 99 => ⟨S65536x64, .f32⟩
  | 100 => ⟨S65536x64, .f32⟩
  | 101 => ⟨S65536x64, .f32⟩
  | 102 => ⟨S1x1024x64, .f32⟩
  | 103 => ⟨S1024x64, .f32⟩
  | 104 => ⟨S65536x64, .f32⟩
  | 105 => ⟨S_, .f32⟩
  | 106 => ⟨S65536, .f32⟩
  | 107 => ⟨S65536x1, .f32⟩
  | 108 => ⟨S1024x64, .f32⟩
  | 109 => ⟨S_, .f32⟩
  | 110 => ⟨S1024, .f32⟩
  | 111 => ⟨S64x1024, .f32⟩
  | 112 => ⟨S65536x1024, .f32⟩
  | 113 => ⟨S_, .f32⟩
  | 114 => ⟨S65536x1024, .f32⟩
  | 115 => ⟨S65536x1024, .f32⟩
  | 116 => ⟨S65536x1024, .f32⟩
  | 117 => ⟨S65536x1024, .f32⟩
  | 118 => ⟨S1x1024, .f32⟩
  | 119 => ⟨S65536x1024, .f32⟩
  | 120 => ⟨S65536x1024, .f32⟩
  | 121 => ⟨S65536x1024, .i32⟩
  | 122 => ⟨S_, .f32⟩
  | 123 => ⟨S_, .i32⟩
  | 124 => ⟨S65536, .f32⟩
  | 125 => ⟨S65536, .i32⟩
  | 126 => ⟨S_, .i32⟩
  | 127 => ⟨S65536, .i32⟩
  | _ => ⟨S65536x64, .f32⟩

abbrev hbmTy0_3 (i : Nat) : BufTy := match i % 128 with
  | 0 => ⟨S65536, .i1⟩
  | 1 => ⟨S_, .i32⟩
  | 2 => ⟨S65536, .i32⟩
  | 3 => ⟨S65536, .i32⟩
  | 4 => ⟨S65536, .i32⟩
  | 5 => ⟨S65536x1, .i32⟩
  | 6 => ⟨S1, .i32⟩
  | 7 => ⟨S_, .i32⟩
  | 8 => ⟨S65536x1, .i32⟩
  | 9 => ⟨S65536x1, .i1⟩
  | 10 => ⟨S1x1, .i32⟩
  | 11 => ⟨S65536x1, .i32⟩
  | 12 => ⟨S65536x1, .i1⟩
  | 13 => ⟨S65536x1, .i1⟩
  | 14 => ⟨S_, .i1⟩
  | 15 => ⟨S65536, .i1⟩
  | 16 => ⟨S65536x64, .f32⟩
  | 17 => ⟨S65536x64, .i1⟩
  | 18 => ⟨S_, .f32⟩
  | 19 => ⟨S65536x64, .f32⟩
  | 20 => ⟨S65536x64, .f32⟩
  | 21 => ⟨S65536x64, .f32⟩
  | 22 => ⟨S65536x64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S65536x64, .f32⟩
  | 30 => ⟨S65536x64, .f32⟩
  | 31 => ⟨S65536x64, .f32⟩
  | 32 => ⟨S65536x64, .f32⟩
  | 33 => ⟨S1x1024x64, .f32⟩
  | 34 => ⟨S1024x64, .f32⟩
  | 35 => ⟨S65536x64, .f32⟩
  | 36 => ⟨S_, .f32⟩
  | 37 => ⟨S65536, .f32⟩
  | 38 => ⟨S65536x1, .f32⟩
  | 39 => ⟨S1024x64, .f32⟩
  | 40 => ⟨S_, .f32⟩
  | 41 => ⟨S1024, .f32⟩
  | 42 => ⟨S64x1024, .f32⟩
  | 43 => ⟨S65536x1024, .f32⟩
  | 44 => ⟨S_, .f32⟩
  | 45 => ⟨S65536x1024, .f32⟩
  | 46 => ⟨S65536x1024, .f32⟩
  | 47 => ⟨S65536x1024, .f32⟩
  | 48 => ⟨S65536x1024, .f32⟩
  | 49 => ⟨S1x1024, .f32⟩
  | 50 => ⟨S65536x1024, .f32⟩
  | 51 => ⟨S65536x1024, .f32⟩
  | 52 => ⟨S65536x1024, .i32⟩
  | 53 => ⟨S_, .f32⟩
  | 54 => ⟨S_, .i32⟩
  | 55 => ⟨S65536, .f32⟩
  | 56 => ⟨S65536, .i32⟩
  | 57 => ⟨S_, .i32⟩
  | 58 => ⟨S65536, .i32⟩
  | 59 => ⟨S65536, .i1⟩
  | 60 => ⟨S_, .i32⟩
  | 61 => ⟨S65536, .i32⟩
  | 62 => ⟨S65536, .i32⟩
  | 63 => ⟨S65536, .i32⟩
  | 64 => ⟨S65536x1, .i32⟩
  | 65 => ⟨S1, .i32⟩
  | 66 => ⟨S_, .i32⟩
  | 67 => ⟨S65536x1, .i32⟩
  | 68 => ⟨S65536x1, .i1⟩
  | 69 => ⟨S1x1, .i32⟩
  | 70 => ⟨S65536x1, .i32⟩
  | 71 => ⟨S65536x1, .i1⟩
  | 72 => ⟨S65536x1, .i1⟩
  | 73 => ⟨S_, .i1⟩
  | 74 => ⟨S65536, .i1⟩
  | 75 => ⟨S65536x64, .f32⟩
  | 76 => ⟨S65536x64, .i1⟩
  | 77 => ⟨S_, .f32⟩
  | 78 => ⟨S65536x64, .f32⟩
  | 79 => ⟨S65536x64, .f32⟩
  | 80 => ⟨S65536x64, .f32⟩
  | 81 => ⟨S65536x64, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S65536x64, .f32⟩
  | 89 => ⟨S65536x64, .f32⟩
  | 90 => ⟨S65536x64, .f32⟩
  | 91 => ⟨S65536x64, .f32⟩
  | 92 => ⟨S65536x1, .i32⟩
  | 93 => ⟨S65536x1, .i32⟩
  | 94 => ⟨S65536x1, .i32⟩
  | 95 => ⟨S65536x1, .i32⟩
  | 96 => ⟨S65536x1, .i32⟩
  | 97 => ⟨S65536x1, .i32⟩
  | 98 => ⟨S65536x1, .i32⟩
  | 99 => ⟨S65536x1, .i32⟩
  | 100 => ⟨S65536x8, .i32⟩
  | 101 => ⟨S1, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S1, .f32⟩
  | 109 => ⟨S8, .f32⟩
  | 110 => ⟨S_, .f32⟩
  | 111 => ⟨S_, .f32⟩
  | 112 => ⟨S_, .f32⟩
  | 113 => ⟨S_, .f32⟩
  | _ => ⟨S65536x64, .f32⟩

abbrev hbmTy (i : Nat) : BufTy := match i / 128 with
  | 0 => hbmTy0_0 i
  | 1 => hbmTy0_1 i
  | 2 => hbmTy0_2 i
  | 3 => hbmTy0_3 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_call0_v0 : Ref sig .tc := ⟨.hbm, 23, rfl⟩
abbrev main_call0_call0_cst : Ref sig .tc := ⟨.hbm, 24, rfl⟩
abbrev main_call0_call0_c : Ref sig .tc := ⟨.hbm, 25, rfl⟩
abbrev main_call0_call0_v1_0 : Ref sig .tc := ⟨.hbm, 26, rfl⟩
abbrev main_v3_1 : Ref sig .tc := ⟨.hbm, 27, rfl⟩
abbrev main_call0_call1_c : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_c_0 : Ref sig .tc := ⟨.hbm, 31, rfl⟩
abbrev main_call0_call1_v2 : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_v5 : Ref sig .tc := ⟨.hbm, 35, rfl⟩
abbrev main_call0_call1_c_1 : Ref sig .tc := ⟨.hbm, 36, rfl⟩
abbrev main_call0_call1_c_2 : Ref sig .tc := ⟨.hbm, 37, rfl⟩
abbrev main_call0_call1_v6 : Ref sig .tc := ⟨.hbm, 38, rfl⟩
abbrev main_call0_call1_v7 : Ref sig .tc := ⟨.hbm, 39, rfl⟩
abbrev main_call0_call1_v8 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_c_3 : Ref sig .tc := ⟨.hbm, 44, rfl⟩
abbrev main_call0_call1_v12 : Ref sig .tc := ⟨.hbm, 45, rfl⟩
abbrev main_call0_call1_v13 : Ref sig .tc := ⟨.hbm, 46, rfl⟩
abbrev main_call0_call1_v14 : Ref sig .tc := ⟨.hbm, 47, rfl⟩
abbrev main_call0_call1_cst : Ref sig .tc := ⟨.hbm, 48, rfl⟩
abbrev main_call0_call1_v15 : Ref sig .tc := ⟨.hbm, 49, rfl⟩
abbrev main_call0_v15 : Ref sig .tc := ⟨.hbm, 50, rfl⟩
abbrev main_call0_v16 : Ref sig .tc := ⟨.hbm, 51, rfl⟩
abbrev main_call0_v17 : Ref sig .tc := ⟨.hbm, 52, rfl⟩
abbrev main_call0_cst_2 : Ref sig .tc := ⟨.hbm, 53, rfl⟩
abbrev main_call0_v18 : Ref sig .tc := ⟨.hbm, 54, rfl⟩
abbrev main_call0_cst_3 : Ref sig .tc := ⟨.hbm, 55, rfl⟩
abbrev main_call0_v19 : Ref sig .tc := ⟨.hbm, 56, rfl⟩
abbrev main_call0_cst_4 : Ref sig .tc := ⟨.hbm, 57, rfl⟩
abbrev main_v3_2 : Ref sig .tc := ⟨.hbm, 58, rfl⟩
abbrev main_call0_v21 : Ref sig .tc := ⟨.hbm, 59, rfl⟩
abbrev main_v3_0 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_call0_v0 : Ref sig .tc := ⟨.hbm, 82, rfl⟩
abbrev main_call1_call0_cst : Ref sig .tc := ⟨.hbm, 83, rfl⟩
abbrev main_call1_call0_c : Ref sig .tc := ⟨.hbm, 84, rfl⟩
abbrev main_call1_call0_v1_0 : Ref sig .tc := ⟨.hbm, 85, rfl⟩
abbrev main_v8_1 : Ref sig .tc := ⟨.hbm, 86, rfl⟩
abbrev main_call1_call1_c : Ref sig .tc := ⟨.hbm, 87, rfl⟩
abbrev main_call1_call1_v0 : Ref sig .tc := ⟨.hbm, 88, rfl⟩
abbrev main_call1_call1_v1 : Ref sig .tc := ⟨.hbm, 89, rfl⟩
abbrev main_call1_call1_c_0 : Ref sig .tc := ⟨.hbm, 90, rfl⟩
abbrev main_call1_call1_v2 : Ref sig .tc := ⟨.hbm, 91, rfl⟩
abbrev main_call1_call1_v3 : Ref sig .tc := ⟨.hbm, 92, rfl⟩
abbrev main_call1_call1_v4 : Ref sig .tc := ⟨.hbm, 93, rfl⟩
abbrev main_call1_call1_v5 : Ref sig .tc := ⟨.hbm, 94, rfl⟩
abbrev main_call1_call1_c_1 : Ref sig .tc := ⟨.hbm, 95, rfl⟩
abbrev main_call1_call1_c_2 : Ref sig .tc := ⟨.hbm, 96, rfl⟩
abbrev main_call1_call1_v6 : Ref sig .tc := ⟨.hbm, 97, rfl⟩
abbrev main_call1_call1_v7 : Ref sig .tc := ⟨.hbm, 98, rfl⟩
abbrev main_call1_call1_v8 : Ref sig .tc := ⟨.hbm, 99, rfl⟩
abbrev main_call1_call1_v9 : Ref sig .tc := ⟨.hbm, 100, rfl⟩
abbrev main_call1_call1_v10 : Ref sig .tc := ⟨.hbm, 101, rfl⟩
abbrev main_call1_call1_v11 : Ref sig .tc := ⟨.hbm, 102, rfl⟩
abbrev main_call1_call1_c_3 : Ref sig .tc := ⟨.hbm, 103, rfl⟩
abbrev main_call1_call1_v12 : Ref sig .tc := ⟨.hbm, 104, rfl⟩
abbrev main_call1_call1_v13 : Ref sig .tc := ⟨.hbm, 105, rfl⟩
abbrev main_call1_call1_v14 : Ref sig .tc := ⟨.hbm, 106, rfl⟩
abbrev main_call1_call1_cst : Ref sig .tc := ⟨.hbm, 107, rfl⟩
abbrev main_call1_call1_v15 : Ref sig .tc := ⟨.hbm, 108, rfl⟩
abbrev main_call1_v15 : Ref sig .tc := ⟨.hbm, 109, rfl⟩
abbrev main_call1_v16 : Ref sig .tc := ⟨.hbm, 110, rfl⟩
abbrev main_call1_v17 : Ref sig .tc := ⟨.hbm, 111, rfl⟩
abbrev main_call1_cst_2 : Ref sig .tc := ⟨.hbm, 112, rfl⟩
abbrev main_call1_v18 : Ref sig .tc := ⟨.hbm, 113, rfl⟩
abbrev main_call1_cst_3 : Ref sig .tc := ⟨.hbm, 114, rfl⟩
abbrev main_call1_v19 : Ref sig .tc := ⟨.hbm, 115, rfl⟩
abbrev main_call1_cst_4 : Ref sig .tc := ⟨.hbm, 116, rfl⟩
abbrev main_v8_2 : Ref sig .tc := ⟨.hbm, 117, rfl⟩
abbrev main_call1_v21 : Ref sig .tc := ⟨.hbm, 118, rfl⟩
abbrev main_v8_0 : Ref sig .tc := ⟨.hbm, 119, rfl⟩
abbrev main_v9 : Ref sig .tc := ⟨.hbm, 120, rfl⟩
abbrev main_v10 : Ref sig .tc := ⟨.hbm, 121, rfl⟩
abbrev main_v11 : Ref sig .tc := ⟨.hbm, 122, rfl⟩
abbrev main_v12 : Ref sig .tc := ⟨.hbm, 123, rfl⟩
abbrev main_call2_v0 : Ref sig .tc := ⟨.hbm, 124, rfl⟩
abbrev main_call2_cst : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_cst_0 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_cst_1 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_v12 : Ref sig .tc := ⟨.hbm, 139, rfl⟩
abbrev main_call2_v13 : Ref sig .tc := ⟨.hbm, 140, rfl⟩
abbrev main_call2_call0_v0 : Ref sig .tc := ⟨.hbm, 141, rfl⟩
abbrev main_call2_call0_cst : Ref sig .tc := ⟨.hbm, 142, rfl⟩
abbrev main_call2_call0_c : Ref sig .tc := ⟨.hbm, 143, rfl⟩
abbrev main_call2_call0_v1_0 : Ref sig .tc := ⟨.hbm, 144, rfl⟩
abbrev main_v13_1 : Ref sig .tc := ⟨.hbm, 145, rfl⟩
abbrev main_call2_call1_c : Ref sig .tc := ⟨.hbm, 146, rfl⟩
abbrev main_call2_call1_v0 : Ref sig .tc := ⟨.hbm, 147, rfl⟩
abbrev main_call2_call1_v1 : Ref sig .tc := ⟨.hbm, 148, rfl⟩
abbrev main_call2_call1_c_0 : Ref sig .tc := ⟨.hbm, 149, rfl⟩
abbrev main_call2_call1_v2 : Ref sig .tc := ⟨.hbm, 150, rfl⟩
abbrev main_call2_call1_v3 : Ref sig .tc := ⟨.hbm, 151, rfl⟩
abbrev main_call2_call1_v4 : Ref sig .tc := ⟨.hbm, 152, rfl⟩
abbrev main_call2_call1_v5 : Ref sig .tc := ⟨.hbm, 153, rfl⟩
abbrev main_call2_call1_c_1 : Ref sig .tc := ⟨.hbm, 154, rfl⟩
abbrev main_call2_call1_c_2 : Ref sig .tc := ⟨.hbm, 155, rfl⟩
abbrev main_call2_call1_v6 : Ref sig .tc := ⟨.hbm, 156, rfl⟩
abbrev main_call2_call1_v7 : Ref sig .tc := ⟨.hbm, 157, rfl⟩
abbrev main_call2_call1_v8 : Ref sig .tc := ⟨.hbm, 158, rfl⟩
abbrev main_call2_call1_v9 : Ref sig .tc := ⟨.hbm, 159, rfl⟩
abbrev main_call2_call1_v10 : Ref sig .tc := ⟨.hbm, 160, rfl⟩
abbrev main_call2_call1_v11 : Ref sig .tc := ⟨.hbm, 161, rfl⟩
abbrev main_call2_call1_c_3 : Ref sig .tc := ⟨.hbm, 162, rfl⟩
abbrev main_call2_call1_v12 : Ref sig .tc := ⟨.hbm, 163, rfl⟩
abbrev main_call2_call1_v13 : Ref sig .tc := ⟨.hbm, 164, rfl⟩
abbrev main_call2_call1_v14 : Ref sig .tc := ⟨.hbm, 165, rfl⟩
abbrev main_call2_call1_cst : Ref sig .tc := ⟨.hbm, 166, rfl⟩
abbrev main_call2_call1_v15 : Ref sig .tc := ⟨.hbm, 167, rfl⟩
abbrev main_call2_v15 : Ref sig .tc := ⟨.hbm, 168, rfl⟩
abbrev main_call2_v16 : Ref sig .tc := ⟨.hbm, 169, rfl⟩
abbrev main_call2_v17 : Ref sig .tc := ⟨.hbm, 170, rfl⟩
abbrev main_call2_cst_2 : Ref sig .tc := ⟨.hbm, 171, rfl⟩
abbrev main_call2_v18 : Ref sig .tc := ⟨.hbm, 172, rfl⟩
abbrev main_call2_cst_3 : Ref sig .tc := ⟨.hbm, 173, rfl⟩
abbrev main_call2_v19 : Ref sig .tc := ⟨.hbm, 174, rfl⟩
abbrev main_call2_cst_4 : Ref sig .tc := ⟨.hbm, 175, rfl⟩
abbrev main_v13_2 : Ref sig .tc := ⟨.hbm, 176, rfl⟩
abbrev main_call2_v21 : Ref sig .tc := ⟨.hbm, 177, rfl⟩
abbrev main_v13_0 : Ref sig .tc := ⟨.hbm, 178, rfl⟩
abbrev main_v14 : Ref sig .tc := ⟨.hbm, 179, rfl⟩
abbrev main_v15 : Ref sig .tc := ⟨.hbm, 180, rfl⟩
abbrev main_v16 : Ref sig .tc := ⟨.hbm, 181, rfl⟩
abbrev main_v17 : Ref sig .tc := ⟨.hbm, 182, rfl⟩
abbrev main_call3_v0 : Ref sig .tc := ⟨.hbm, 183, rfl⟩
abbrev main_call3_cst : Ref sig .tc := ⟨.hbm, 184, rfl⟩
abbrev main_call3_v1 : Ref sig .tc := ⟨.hbm, 185, rfl⟩
abbrev main_call3_v2 : Ref sig .tc := ⟨.hbm, 186, rfl⟩
abbrev main_call3_v3 : Ref sig .tc := ⟨.hbm, 187, rfl⟩
abbrev main_call3_cst_0 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_cst_1 : Ref sig .tc := ⟨.hbm, 192, rfl⟩
abbrev main_call3_v7 : Ref sig .tc := ⟨.hbm, 193, rfl⟩
abbrev main_call3_v8 : Ref sig .tc := ⟨.hbm, 194, rfl⟩
abbrev main_call3_v9 : Ref sig .tc := ⟨.hbm, 195, rfl⟩
abbrev main_call3_v10 : Ref sig .tc := ⟨.hbm, 196, rfl⟩
abbrev main_call3_v11 : Ref sig .tc := ⟨.hbm, 197, rfl⟩
abbrev main_call3_v12 : Ref sig .tc := ⟨.hbm, 198, rfl⟩
abbrev main_call3_v13 : Ref sig .tc := ⟨.hbm, 199, rfl⟩
abbrev main_call3_call0_v0 : Ref sig .tc := ⟨.hbm, 200, rfl⟩
abbrev main_call3_call0_cst : Ref sig .tc := ⟨.hbm, 201, rfl⟩
abbrev main_call3_call0_c : Ref sig .tc := ⟨.hbm, 202, rfl⟩
abbrev main_call3_call0_v1_0 : Ref sig .tc := ⟨.hbm, 203, rfl⟩
abbrev main_v18_1 : Ref sig .tc := ⟨.hbm, 204, rfl⟩
abbrev main_call3_call1_c : Ref sig .tc := ⟨.hbm, 205, rfl⟩
abbrev main_call3_call1_v0 : Ref sig .tc := ⟨.hbm, 206, rfl⟩
abbrev main_call3_call1_v1 : Ref sig .tc := ⟨.hbm, 207, rfl⟩
abbrev main_call3_call1_c_0 : Ref sig .tc := ⟨.hbm, 208, rfl⟩
abbrev main_call3_call1_v2 : Ref sig .tc := ⟨.hbm, 209, rfl⟩
abbrev main_call3_call1_v3 : Ref sig .tc := ⟨.hbm, 210, rfl⟩
abbrev main_call3_call1_v4 : Ref sig .tc := ⟨.hbm, 211, rfl⟩
abbrev main_call3_call1_v5 : Ref sig .tc := ⟨.hbm, 212, rfl⟩
abbrev main_call3_call1_c_1 : Ref sig .tc := ⟨.hbm, 213, rfl⟩
abbrev main_call3_call1_c_2 : Ref sig .tc := ⟨.hbm, 214, rfl⟩
abbrev main_call3_call1_v6 : Ref sig .tc := ⟨.hbm, 215, rfl⟩
abbrev main_call3_call1_v7 : Ref sig .tc := ⟨.hbm, 216, rfl⟩
abbrev main_call3_call1_v8 : Ref sig .tc := ⟨.hbm, 217, rfl⟩
abbrev main_call3_call1_v9 : Ref sig .tc := ⟨.hbm, 218, rfl⟩
abbrev main_call3_call1_v10 : Ref sig .tc := ⟨.hbm, 219, rfl⟩
abbrev main_call3_call1_v11 : Ref sig .tc := ⟨.hbm, 220, rfl⟩
abbrev main_call3_call1_c_3 : Ref sig .tc := ⟨.hbm, 221, rfl⟩
abbrev main_call3_call1_v12 : Ref sig .tc := ⟨.hbm, 222, rfl⟩
abbrev main_call3_call1_v13 : Ref sig .tc := ⟨.hbm, 223, rfl⟩
abbrev main_call3_call1_v14 : Ref sig .tc := ⟨.hbm, 224, rfl⟩
abbrev main_call3_call1_cst : Ref sig .tc := ⟨.hbm, 225, rfl⟩
abbrev main_call3_call1_v15 : Ref sig .tc := ⟨.hbm, 226, rfl⟩
abbrev main_call3_v15 : Ref sig .tc := ⟨.hbm, 227, rfl⟩
abbrev main_call3_v16 : Ref sig .tc := ⟨.hbm, 228, rfl⟩
abbrev main_call3_v17 : Ref sig .tc := ⟨.hbm, 229, rfl⟩
abbrev main_call3_cst_2 : Ref sig .tc := ⟨.hbm, 230, rfl⟩
abbrev main_call3_v18 : Ref sig .tc := ⟨.hbm, 231, rfl⟩
abbrev main_call3_cst_3 : Ref sig .tc := ⟨.hbm, 232, rfl⟩
abbrev main_call3_v19 : Ref sig .tc := ⟨.hbm, 233, rfl⟩
abbrev main_call3_cst_4 : Ref sig .tc := ⟨.hbm, 234, rfl⟩
abbrev main_v18_2 : Ref sig .tc := ⟨.hbm, 235, rfl⟩
abbrev main_call3_v21 : Ref sig .tc := ⟨.hbm, 236, rfl⟩
abbrev main_v18_0 : Ref sig .tc := ⟨.hbm, 237, rfl⟩
abbrev main_v19 : Ref sig .tc := ⟨.hbm, 238, rfl⟩
abbrev main_v20 : Ref sig .tc := ⟨.hbm, 239, rfl⟩
abbrev main_v21 : Ref sig .tc := ⟨.hbm, 240, rfl⟩
abbrev main_v22 : Ref sig .tc := ⟨.hbm, 241, rfl⟩
abbrev main_call4_v0 : Ref sig .tc := ⟨.hbm, 242, rfl⟩
abbrev main_call4_cst : Ref sig .tc := ⟨.hbm, 243, rfl⟩
abbrev main_call4_v1 : Ref sig .tc := ⟨.hbm, 244, rfl⟩
abbrev main_call4_v2 : Ref sig .tc := ⟨.hbm, 245, rfl⟩
abbrev main_call4_v3 : Ref sig .tc := ⟨.hbm, 246, rfl⟩
abbrev main_call4_cst_0 : Ref sig .tc := ⟨.hbm, 247, rfl⟩
abbrev main_call4_v4 : Ref sig .tc := ⟨.hbm, 248, rfl⟩
abbrev main_call4_v5 : Ref sig .tc := ⟨.hbm, 249, rfl⟩
abbrev main_call4_v6 : Ref sig .tc := ⟨.hbm, 250, rfl⟩
abbrev main_call4_cst_1 : Ref sig .tc := ⟨.hbm, 251, rfl⟩
abbrev main_call4_v7 : Ref sig .tc := ⟨.hbm, 252, rfl⟩
abbrev main_call4_v8 : Ref sig .tc := ⟨.hbm, 253, rfl⟩
abbrev main_call4_v9 : Ref sig .tc := ⟨.hbm, 254, rfl⟩
abbrev main_call4_v10 : Ref sig .tc := ⟨.hbm, 255, rfl⟩
abbrev main_call4_v11 : Ref sig .tc := ⟨.hbm, 256, rfl⟩
abbrev main_call4_v12 : Ref sig .tc := ⟨.hbm, 257, rfl⟩
abbrev main_call4_v13 : Ref sig .tc := ⟨.hbm, 258, rfl⟩
abbrev main_call4_call0_v0 : Ref sig .tc := ⟨.hbm, 259, rfl⟩
abbrev main_call4_call0_cst : Ref sig .tc := ⟨.hbm, 260, rfl⟩
abbrev main_call4_call0_c : Ref sig .tc := ⟨.hbm, 261, rfl⟩
abbrev main_call4_call0_v1_0 : Ref sig .tc := ⟨.hbm, 262, rfl⟩
abbrev main_v23_1 : Ref sig .tc := ⟨.hbm, 263, rfl⟩
abbrev main_call4_call1_c : Ref sig .tc := ⟨.hbm, 264, rfl⟩
abbrev main_call4_call1_v0 : Ref sig .tc := ⟨.hbm, 265, rfl⟩
abbrev main_call4_call1_v1 : Ref sig .tc := ⟨.hbm, 266, rfl⟩
abbrev main_call4_call1_c_0 : Ref sig .tc := ⟨.hbm, 267, rfl⟩
abbrev main_call4_call1_v2 : Ref sig .tc := ⟨.hbm, 268, rfl⟩
abbrev main_call4_call1_v3 : Ref sig .tc := ⟨.hbm, 269, rfl⟩
abbrev main_call4_call1_v4 : Ref sig .tc := ⟨.hbm, 270, rfl⟩
abbrev main_call4_call1_v5 : Ref sig .tc := ⟨.hbm, 271, rfl⟩
abbrev main_call4_call1_c_1 : Ref sig .tc := ⟨.hbm, 272, rfl⟩
abbrev main_call4_call1_c_2 : Ref sig .tc := ⟨.hbm, 273, rfl⟩
abbrev main_call4_call1_v6 : Ref sig .tc := ⟨.hbm, 274, rfl⟩
abbrev main_call4_call1_v7 : Ref sig .tc := ⟨.hbm, 275, rfl⟩
abbrev main_call4_call1_v8 : Ref sig .tc := ⟨.hbm, 276, rfl⟩
abbrev main_call4_call1_v9 : Ref sig .tc := ⟨.hbm, 277, rfl⟩
abbrev main_call4_call1_v10 : Ref sig .tc := ⟨.hbm, 278, rfl⟩
abbrev main_call4_call1_v11 : Ref sig .tc := ⟨.hbm, 279, rfl⟩
abbrev main_call4_call1_c_3 : Ref sig .tc := ⟨.hbm, 280, rfl⟩
abbrev main_call4_call1_v12 : Ref sig .tc := ⟨.hbm, 281, rfl⟩
abbrev main_call4_call1_v13 : Ref sig .tc := ⟨.hbm, 282, rfl⟩
abbrev main_call4_call1_v14 : Ref sig .tc := ⟨.hbm, 283, rfl⟩
abbrev main_call4_call1_cst : Ref sig .tc := ⟨.hbm, 284, rfl⟩
abbrev main_call4_call1_v15 : Ref sig .tc := ⟨.hbm, 285, rfl⟩
abbrev main_call4_v15 : Ref sig .tc := ⟨.hbm, 286, rfl⟩
abbrev main_call4_v16 : Ref sig .tc := ⟨.hbm, 287, rfl⟩
abbrev main_call4_v17 : Ref sig .tc := ⟨.hbm, 288, rfl⟩
abbrev main_call4_cst_2 : Ref sig .tc := ⟨.hbm, 289, rfl⟩
abbrev main_call4_v18 : Ref sig .tc := ⟨.hbm, 290, rfl⟩
abbrev main_call4_cst_3 : Ref sig .tc := ⟨.hbm, 291, rfl⟩
abbrev main_call4_v19 : Ref sig .tc := ⟨.hbm, 292, rfl⟩
abbrev main_call4_cst_4 : Ref sig .tc := ⟨.hbm, 293, rfl⟩
abbrev main_v23_2 : Ref sig .tc := ⟨.hbm, 294, rfl⟩
abbrev main_call4_v21 : Ref sig .tc := ⟨.hbm, 295, rfl⟩
abbrev main_v23_0 : Ref sig .tc := ⟨.hbm, 296, rfl⟩
abbrev main_v24 : Ref sig .tc := ⟨.hbm, 297, rfl⟩
abbrev main_v25 : Ref sig .tc := ⟨.hbm, 298, rfl⟩
abbrev main_v26 : Ref sig .tc := ⟨.hbm, 299, rfl⟩
abbrev main_v27 : Ref sig .tc := ⟨.hbm, 300, rfl⟩
abbrev main_call5_v0 : Ref sig .tc := ⟨.hbm, 301, rfl⟩
abbrev main_call5_cst : Ref sig .tc := ⟨.hbm, 302, rfl⟩
abbrev main_call5_v1 : Ref sig .tc := ⟨.hbm, 303, rfl⟩
abbrev main_call5_v2 : Ref sig .tc := ⟨.hbm, 304, rfl⟩
abbrev main_call5_v3 : Ref sig .tc := ⟨.hbm, 305, rfl⟩
abbrev main_call5_cst_0 : Ref sig .tc := ⟨.hbm, 306, rfl⟩
abbrev main_call5_v4 : Ref sig .tc := ⟨.hbm, 307, rfl⟩
abbrev main_call5_v5 : Ref sig .tc := ⟨.hbm, 308, rfl⟩
abbrev main_call5_v6 : Ref sig .tc := ⟨.hbm, 309, rfl⟩
abbrev main_call5_cst_1 : Ref sig .tc := ⟨.hbm, 310, rfl⟩
abbrev main_call5_v7 : Ref sig .tc := ⟨.hbm, 311, rfl⟩
abbrev main_call5_v8 : Ref sig .tc := ⟨.hbm, 312, rfl⟩
abbrev main_call5_v9 : Ref sig .tc := ⟨.hbm, 313, rfl⟩
abbrev main_call5_v10 : Ref sig .tc := ⟨.hbm, 314, rfl⟩
abbrev main_call5_v11 : Ref sig .tc := ⟨.hbm, 315, rfl⟩
abbrev main_call5_v12 : Ref sig .tc := ⟨.hbm, 316, rfl⟩
abbrev main_call5_v13 : Ref sig .tc := ⟨.hbm, 317, rfl⟩
abbrev main_call5_call0_v0 : Ref sig .tc := ⟨.hbm, 318, rfl⟩
abbrev main_call5_call0_cst : Ref sig .tc := ⟨.hbm, 319, rfl⟩
abbrev main_call5_call0_c : Ref sig .tc := ⟨.hbm, 320, rfl⟩
abbrev main_call5_call0_v1_0 : Ref sig .tc := ⟨.hbm, 321, rfl⟩
abbrev main_v28_1 : Ref sig .tc := ⟨.hbm, 322, rfl⟩
abbrev main_call5_call1_c : Ref sig .tc := ⟨.hbm, 323, rfl⟩
abbrev main_call5_call1_v0 : Ref sig .tc := ⟨.hbm, 324, rfl⟩
abbrev main_call5_call1_v1 : Ref sig .tc := ⟨.hbm, 325, rfl⟩
abbrev main_call5_call1_c_0 : Ref sig .tc := ⟨.hbm, 326, rfl⟩
abbrev main_call5_call1_v2 : Ref sig .tc := ⟨.hbm, 327, rfl⟩
abbrev main_call5_call1_v3 : Ref sig .tc := ⟨.hbm, 328, rfl⟩
abbrev main_call5_call1_v4 : Ref sig .tc := ⟨.hbm, 329, rfl⟩
abbrev main_call5_call1_v5 : Ref sig .tc := ⟨.hbm, 330, rfl⟩
abbrev main_call5_call1_c_1 : Ref sig .tc := ⟨.hbm, 331, rfl⟩
abbrev main_call5_call1_c_2 : Ref sig .tc := ⟨.hbm, 332, rfl⟩
abbrev main_call5_call1_v6 : Ref sig .tc := ⟨.hbm, 333, rfl⟩
abbrev main_call5_call1_v7 : Ref sig .tc := ⟨.hbm, 334, rfl⟩
abbrev main_call5_call1_v8 : Ref sig .tc := ⟨.hbm, 335, rfl⟩
abbrev main_call5_call1_v9 : Ref sig .tc := ⟨.hbm, 336, rfl⟩
abbrev main_call5_call1_v10 : Ref sig .tc := ⟨.hbm, 337, rfl⟩
abbrev main_call5_call1_v11 : Ref sig .tc := ⟨.hbm, 338, rfl⟩
abbrev main_call5_call1_c_3 : Ref sig .tc := ⟨.hbm, 339, rfl⟩
abbrev main_call5_call1_v12 : Ref sig .tc := ⟨.hbm, 340, rfl⟩
abbrev main_call5_call1_v13 : Ref sig .tc := ⟨.hbm, 341, rfl⟩
abbrev main_call5_call1_v14 : Ref sig .tc := ⟨.hbm, 342, rfl⟩
abbrev main_call5_call1_cst : Ref sig .tc := ⟨.hbm, 343, rfl⟩
abbrev main_call5_call1_v15 : Ref sig .tc := ⟨.hbm, 344, rfl⟩
abbrev main_call5_v15 : Ref sig .tc := ⟨.hbm, 345, rfl⟩
abbrev main_call5_v16 : Ref sig .tc := ⟨.hbm, 346, rfl⟩
abbrev main_call5_v17 : Ref sig .tc := ⟨.hbm, 347, rfl⟩
abbrev main_call5_cst_2 : Ref sig .tc := ⟨.hbm, 348, rfl⟩
abbrev main_call5_v18 : Ref sig .tc := ⟨.hbm, 349, rfl⟩
abbrev main_call5_cst_3 : Ref sig .tc := ⟨.hbm, 350, rfl⟩
abbrev main_call5_v19 : Ref sig .tc := ⟨.hbm, 351, rfl⟩
abbrev main_call5_cst_4 : Ref sig .tc := ⟨.hbm, 352, rfl⟩
abbrev main_v28_2 : Ref sig .tc := ⟨.hbm, 353, rfl⟩
abbrev main_call5_v21 : Ref sig .tc := ⟨.hbm, 354, rfl⟩
abbrev main_v28_0 : Ref sig .tc := ⟨.hbm, 355, rfl⟩
abbrev main_v29 : Ref sig .tc := ⟨.hbm, 356, rfl⟩
abbrev main_v30 : Ref sig .tc := ⟨.hbm, 357, rfl⟩
abbrev main_v31 : Ref sig .tc := ⟨.hbm, 358, rfl⟩
abbrev main_v32 : Ref sig .tc := ⟨.hbm, 359, rfl⟩
abbrev main_call6_v0 : Ref sig .tc := ⟨.hbm, 360, rfl⟩
abbrev main_call6_cst : Ref sig .tc := ⟨.hbm, 361, rfl⟩
abbrev main_call6_v1 : Ref sig .tc := ⟨.hbm, 362, rfl⟩
abbrev main_call6_v2 : Ref sig .tc := ⟨.hbm, 363, rfl⟩
abbrev main_call6_v3 : Ref sig .tc := ⟨.hbm, 364, rfl⟩
abbrev main_call6_cst_0 : Ref sig .tc := ⟨.hbm, 365, rfl⟩
abbrev main_call6_v4 : Ref sig .tc := ⟨.hbm, 366, rfl⟩
abbrev main_call6_v5 : Ref sig .tc := ⟨.hbm, 367, rfl⟩
abbrev main_call6_v6 : Ref sig .tc := ⟨.hbm, 368, rfl⟩
abbrev main_call6_cst_1 : Ref sig .tc := ⟨.hbm, 369, rfl⟩
abbrev main_call6_v7 : Ref sig .tc := ⟨.hbm, 370, rfl⟩
abbrev main_call6_v8 : Ref sig .tc := ⟨.hbm, 371, rfl⟩
abbrev main_call6_v9 : Ref sig .tc := ⟨.hbm, 372, rfl⟩
abbrev main_call6_v10 : Ref sig .tc := ⟨.hbm, 373, rfl⟩
abbrev main_call6_v11 : Ref sig .tc := ⟨.hbm, 374, rfl⟩
abbrev main_call6_v12 : Ref sig .tc := ⟨.hbm, 375, rfl⟩
abbrev main_call6_v13 : Ref sig .tc := ⟨.hbm, 376, rfl⟩
abbrev main_call6_call0_v0 : Ref sig .tc := ⟨.hbm, 377, rfl⟩
abbrev main_call6_call0_cst : Ref sig .tc := ⟨.hbm, 378, rfl⟩
abbrev main_call6_call0_c : Ref sig .tc := ⟨.hbm, 379, rfl⟩
abbrev main_call6_call0_v1_0 : Ref sig .tc := ⟨.hbm, 380, rfl⟩
abbrev main_v33_1 : Ref sig .tc := ⟨.hbm, 381, rfl⟩
abbrev main_call6_call1_c : Ref sig .tc := ⟨.hbm, 382, rfl⟩
abbrev main_call6_call1_v0 : Ref sig .tc := ⟨.hbm, 383, rfl⟩
abbrev main_call6_call1_v1 : Ref sig .tc := ⟨.hbm, 384, rfl⟩
abbrev main_call6_call1_c_0 : Ref sig .tc := ⟨.hbm, 385, rfl⟩
abbrev main_call6_call1_v2 : Ref sig .tc := ⟨.hbm, 386, rfl⟩
abbrev main_call6_call1_v3 : Ref sig .tc := ⟨.hbm, 387, rfl⟩
abbrev main_call6_call1_v4 : Ref sig .tc := ⟨.hbm, 388, rfl⟩
abbrev main_call6_call1_v5 : Ref sig .tc := ⟨.hbm, 389, rfl⟩
abbrev main_call6_call1_c_1 : Ref sig .tc := ⟨.hbm, 390, rfl⟩
abbrev main_call6_call1_c_2 : Ref sig .tc := ⟨.hbm, 391, rfl⟩
abbrev main_call6_call1_v6 : Ref sig .tc := ⟨.hbm, 392, rfl⟩
abbrev main_call6_call1_v7 : Ref sig .tc := ⟨.hbm, 393, rfl⟩
abbrev main_call6_call1_v8 : Ref sig .tc := ⟨.hbm, 394, rfl⟩
abbrev main_call6_call1_v9 : Ref sig .tc := ⟨.hbm, 395, rfl⟩
abbrev main_call6_call1_v10 : Ref sig .tc := ⟨.hbm, 396, rfl⟩
abbrev main_call6_call1_v11 : Ref sig .tc := ⟨.hbm, 397, rfl⟩
abbrev main_call6_call1_c_3 : Ref sig .tc := ⟨.hbm, 398, rfl⟩
abbrev main_call6_call1_v12 : Ref sig .tc := ⟨.hbm, 399, rfl⟩
abbrev main_call6_call1_v13 : Ref sig .tc := ⟨.hbm, 400, rfl⟩
abbrev main_call6_call1_v14 : Ref sig .tc := ⟨.hbm, 401, rfl⟩
abbrev main_call6_call1_cst : Ref sig .tc := ⟨.hbm, 402, rfl⟩
abbrev main_call6_call1_v15 : Ref sig .tc := ⟨.hbm, 403, rfl⟩
abbrev main_call6_v15 : Ref sig .tc := ⟨.hbm, 404, rfl⟩
abbrev main_call6_v16 : Ref sig .tc := ⟨.hbm, 405, rfl⟩
abbrev main_call6_v17 : Ref sig .tc := ⟨.hbm, 406, rfl⟩
abbrev main_call6_cst_2 : Ref sig .tc := ⟨.hbm, 407, rfl⟩
abbrev main_call6_v18 : Ref sig .tc := ⟨.hbm, 408, rfl⟩
abbrev main_call6_cst_3 : Ref sig .tc := ⟨.hbm, 409, rfl⟩
abbrev main_call6_v19 : Ref sig .tc := ⟨.hbm, 410, rfl⟩
abbrev main_call6_cst_4 : Ref sig .tc := ⟨.hbm, 411, rfl⟩
abbrev main_v33_2 : Ref sig .tc := ⟨.hbm, 412, rfl⟩
abbrev main_call6_v21 : Ref sig .tc := ⟨.hbm, 413, rfl⟩
abbrev main_v33_0 : Ref sig .tc := ⟨.hbm, 414, rfl⟩
abbrev main_v34 : Ref sig .tc := ⟨.hbm, 415, rfl⟩
abbrev main_v35 : Ref sig .tc := ⟨.hbm, 416, rfl⟩
abbrev main_v36 : Ref sig .tc := ⟨.hbm, 417, rfl⟩
abbrev main_v37 : Ref sig .tc := ⟨.hbm, 418, rfl⟩
abbrev main_call7_v0 : Ref sig .tc := ⟨.hbm, 419, rfl⟩
abbrev main_call7_cst : Ref sig .tc := ⟨.hbm, 420, rfl⟩
abbrev main_call7_v1 : Ref sig .tc := ⟨.hbm, 421, rfl⟩
abbrev main_call7_v2 : Ref sig .tc := ⟨.hbm, 422, rfl⟩
abbrev main_call7_v3 : Ref sig .tc := ⟨.hbm, 423, rfl⟩
abbrev main_call7_cst_0 : Ref sig .tc := ⟨.hbm, 424, rfl⟩
abbrev main_call7_v4 : Ref sig .tc := ⟨.hbm, 425, rfl⟩
abbrev main_call7_v5 : Ref sig .tc := ⟨.hbm, 426, rfl⟩
abbrev main_call7_v6 : Ref sig .tc := ⟨.hbm, 427, rfl⟩
abbrev main_call7_cst_1 : Ref sig .tc := ⟨.hbm, 428, rfl⟩
abbrev main_call7_v7 : Ref sig .tc := ⟨.hbm, 429, rfl⟩
abbrev main_call7_v8 : Ref sig .tc := ⟨.hbm, 430, rfl⟩
abbrev main_call7_v9 : Ref sig .tc := ⟨.hbm, 431, rfl⟩
abbrev main_call7_v10 : Ref sig .tc := ⟨.hbm, 432, rfl⟩
abbrev main_call7_v11 : Ref sig .tc := ⟨.hbm, 433, rfl⟩
abbrev main_call7_v12 : Ref sig .tc := ⟨.hbm, 434, rfl⟩
abbrev main_call7_v13 : Ref sig .tc := ⟨.hbm, 435, rfl⟩
abbrev main_call7_call0_v0 : Ref sig .tc := ⟨.hbm, 436, rfl⟩
abbrev main_call7_call0_cst : Ref sig .tc := ⟨.hbm, 437, rfl⟩
abbrev main_call7_call0_c : Ref sig .tc := ⟨.hbm, 438, rfl⟩
abbrev main_call7_call0_v1_0 : Ref sig .tc := ⟨.hbm, 439, rfl⟩
abbrev main_v38_1 : Ref sig .tc := ⟨.hbm, 440, rfl⟩
abbrev main_call7_call1_c : Ref sig .tc := ⟨.hbm, 441, rfl⟩
abbrev main_call7_call1_v0 : Ref sig .tc := ⟨.hbm, 442, rfl⟩
abbrev main_call7_call1_v1 : Ref sig .tc := ⟨.hbm, 443, rfl⟩
abbrev main_call7_call1_c_0 : Ref sig .tc := ⟨.hbm, 444, rfl⟩
abbrev main_call7_call1_v2 : Ref sig .tc := ⟨.hbm, 445, rfl⟩
abbrev main_call7_call1_v3 : Ref sig .tc := ⟨.hbm, 446, rfl⟩
abbrev main_call7_call1_v4 : Ref sig .tc := ⟨.hbm, 447, rfl⟩
abbrev main_call7_call1_v5 : Ref sig .tc := ⟨.hbm, 448, rfl⟩
abbrev main_call7_call1_c_1 : Ref sig .tc := ⟨.hbm, 449, rfl⟩
abbrev main_call7_call1_c_2 : Ref sig .tc := ⟨.hbm, 450, rfl⟩
abbrev main_call7_call1_v6 : Ref sig .tc := ⟨.hbm, 451, rfl⟩
abbrev main_call7_call1_v7 : Ref sig .tc := ⟨.hbm, 452, rfl⟩
abbrev main_call7_call1_v8 : Ref sig .tc := ⟨.hbm, 453, rfl⟩
abbrev main_call7_call1_v9 : Ref sig .tc := ⟨.hbm, 454, rfl⟩
abbrev main_call7_call1_v10 : Ref sig .tc := ⟨.hbm, 455, rfl⟩
abbrev main_call7_call1_v11 : Ref sig .tc := ⟨.hbm, 456, rfl⟩
abbrev main_call7_call1_c_3 : Ref sig .tc := ⟨.hbm, 457, rfl⟩
abbrev main_call7_call1_v12 : Ref sig .tc := ⟨.hbm, 458, rfl⟩
abbrev main_call7_call1_v13 : Ref sig .tc := ⟨.hbm, 459, rfl⟩
abbrev main_call7_call1_v14 : Ref sig .tc := ⟨.hbm, 460, rfl⟩
abbrev main_call7_call1_cst : Ref sig .tc := ⟨.hbm, 461, rfl⟩
abbrev main_call7_call1_v15 : Ref sig .tc := ⟨.hbm, 462, rfl⟩
abbrev main_call7_v15 : Ref sig .tc := ⟨.hbm, 463, rfl⟩
abbrev main_call7_v16 : Ref sig .tc := ⟨.hbm, 464, rfl⟩
abbrev main_call7_v17 : Ref sig .tc := ⟨.hbm, 465, rfl⟩
abbrev main_call7_cst_2 : Ref sig .tc := ⟨.hbm, 466, rfl⟩
abbrev main_call7_v18 : Ref sig .tc := ⟨.hbm, 467, rfl⟩
abbrev main_call7_cst_3 : Ref sig .tc := ⟨.hbm, 468, rfl⟩
abbrev main_call7_v19 : Ref sig .tc := ⟨.hbm, 469, rfl⟩
abbrev main_call7_cst_4 : Ref sig .tc := ⟨.hbm, 470, rfl⟩
abbrev main_v38_2 : Ref sig .tc := ⟨.hbm, 471, rfl⟩
abbrev main_call7_v21 : Ref sig .tc := ⟨.hbm, 472, rfl⟩
abbrev main_v38_0 : Ref sig .tc := ⟨.hbm, 473, rfl⟩
abbrev main_v39 : Ref sig .tc := ⟨.hbm, 474, rfl⟩
abbrev main_v40 : Ref sig .tc := ⟨.hbm, 475, rfl⟩
abbrev main_v41 : Ref sig .tc := ⟨.hbm, 476, rfl⟩
abbrev main_v42 : Ref sig .tc := ⟨.hbm, 477, rfl⟩
abbrev main_v43 : Ref sig .tc := ⟨.hbm, 478, rfl⟩
abbrev main_v44 : Ref sig .tc := ⟨.hbm, 479, rfl⟩
abbrev main_v45 : Ref sig .tc := ⟨.hbm, 480, rfl⟩
abbrev main_v46 : Ref sig .tc := ⟨.hbm, 481, rfl⟩
abbrev main_v47 : Ref sig .tc := ⟨.hbm, 482, rfl⟩
abbrev main_v48 : Ref sig .tc := ⟨.hbm, 483, rfl⟩
abbrev main_v49 : Ref sig .tc := ⟨.hbm, 484, rfl⟩
abbrev main_v50 : Ref sig .tc := ⟨.hbm, 485, rfl⟩
abbrev main_v51 : Ref sig .tc := ⟨.hbm, 486, rfl⟩
abbrev main_v52 : Ref sig .tc := ⟨.hbm, 487, rfl⟩
abbrev main_v53 : Ref sig .tc := ⟨.hbm, 488, rfl⟩
abbrev main_v54 : Ref sig .tc := ⟨.hbm, 489, rfl⟩
abbrev main_v55 : Ref sig .tc := ⟨.hbm, 490, rfl⟩
abbrev main_v56 : Ref sig .tc := ⟨.hbm, 491, rfl⟩
abbrev main_v57 : Ref sig .tc := ⟨.hbm, 492, rfl⟩
abbrev main_v58 : Ref sig .tc := ⟨.hbm, 493, rfl⟩
abbrev main_cst_0 : Ref sig .tc := ⟨.hbm, 494, rfl⟩
abbrev main_v59 : Ref sig .tc := ⟨.hbm, 495, rfl⟩
abbrev main_cst_1 : Ref sig .tc := ⟨.hbm, 496, rfl⟩
abbrev main_v60 : Ref sig .tc := ⟨.hbm, 497, rfl⟩

abbrev nD : Nat := 1
abbrev τ : Topo := Topo.v7x

variable {F : FTy → Type} [FloatOps F]
-- ==== Proof.Spec.lean ====
/- Residual vector quantization of one row over the real numbers. -/
module

public import Mathlib.Data.EReal.Operations
public import Mathlib.Algebra.BigOperators.Fin

@[expose] public section

noncomputable section

namespace Cert.Rvq

/-- `i` is the first index at which `f` is least. -/
def IsFirst {n : ℕ} (f : Fin n → ℝ) (i : Fin n) : Prop := (∀ v, f i ≤ f v) ∧ ∀ v, v < i → f i < f v

theorem exists_first {n : ℕ} (f : Fin (n + 1) → ℝ) : ∃ i, IsFirst f i := by
  classical
  obtain ⟨j, -, hj⟩ := Finset.exists_min_image Finset.univ f ⟨0, Finset.mem_univ _⟩
  have hne : (Finset.univ.filter fun v => f v = f j).Nonempty := ⟨j, by simp⟩
  refine ⟨(Finset.univ.filter fun v => f v = f j).min' hne, ?_, ?_⟩
  · have h := Finset.min'_mem _ hne
    rw [Finset.mem_filter] at h
    intro v; rw [h.2]; exact hj v (Finset.mem_univ v)
  · have h := Finset.min'_mem _ hne
    rw [Finset.mem_filter] at h
    intro v hv
    rw [h.2]
    refine lt_of_le_of_ne (hj v (Finset.mem_univ v)) fun e => ?_
    exact absurd hv (not_lt.mpr (Finset.min'_le _ v (by simp [e])))

/-- The first index at which `f` is least. -/
def first {n : ℕ} (f : Fin (n + 1) → ℝ) : Fin (n + 1) := (exists_first f).choose

theorem first_spec {n : ℕ} (f : Fin (n + 1) → ℝ) : IsFirst f (first f) := (exists_first f).choose_spec

/-- A row of a data array, and a codebook. -/
abbrev Row := Fin 64 → ℝ
@[inherit_doc Row]
abbrev Book := Fin 1024 → Row

/-- The squared length. -/
def sq (r : Row) : ℝ := ∑ d, r d * r d

/-- The squared distance of a row to an entry. -/
def dist (r : Row) (C : Book) (v : Fin 1024) : ℝ := sq r - 2 * (∑ d, r d * C v d) + sq (C v)

/-- The nearest entry of a row, the first of several. -/
def pick (r : Row) (C : Book) : Fin 1024 := first (dist r C)

/-- The row less its nearest entry. -/
def next (r : Row) (C : Book) : Row := fun d => r d - C (pick r C) d

/-- The residual of a row before layer `n`. -/
def res (C : ℕ → Book) (y : Row) : ℕ → Row
  | 0 => y
  | n + 1 => next (res C y n) (C n)

/-- The index of a row in layer `n`. -/
def code (C : ℕ → Book) (y : Row) (n : ℕ) : Fin 1024 := pick (res C y n) (C n)

/-- What all the rows' residuals after layer `n` add up to, squared. -/
def total (C : ℕ → Book) (y : ℕ → Row) (n : ℕ) : ℝ := ∑ b ∈ Finset.range 65536, sq (res C (y b) (n + 1))

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of minima is the least of the values. -/
theorem fold_min {ι : Type} [Fintype ι] (g : ι → EReal) (x : EReal) (h : ∀ v, x ≤ g v) (i : ι) (hi : g i = x) :
    Finset.univ.fold min ⊤ g = x := by
  refine le_antisymm ?_ (Finset.le_fold_min _ |>.mpr ⟨le_top, fun v _ => h v⟩)
  exact (Finset.fold_min_le _).mpr (Or.inr ⟨i, Finset.mem_univ i, hi.le⟩)

end Cert.Rvq
-- ==== Proof.Consts.lean ====
/- The constants and conversions of the programs over the extended reals. -/
module

public import proofs.«01_k».proof.Proof.Spec
public import Idealize.ShloMosaic.Lib.Pointwise

@[expose] public section

noncomputable section

namespace Cert.Rvq

open Idealize.ShloMosaic

theorem ofBits_inf : Ideal.ofBits .f32 0x7F800000#32 = ⊤ := by simp [Ideal.ofBits, Ideal.ieee]
theorem ofBits_ninf : Ideal.ofBits .f32 0xFF800000#32 = ⊥ := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_count : Ideal.ofBits .f32 0x4A800000#32 = ((4194304 : ℝ) : EReal) := by
  simp [Ideal.ofBits, Ideal.ieee, -EReal.coe_mul]; norm_num
theorem ofBits_neg_two : Ideal.ofBits .bf16 0xC000#16 = ((-2 : ℝ) : EReal) := by
  simp [Ideal.ofBits, Ideal.ieee, -EReal.coe_mul]; norm_num

/-- A lane number as a float. -/
theorem sitofp_lane (v : ℕ) (h : v < 2147483648) : FloatOps.sitofp (F := Ideal) .f32 (BitVec.ofNat 32 v) = ((v : ℝ) : EReal) := by
  show (((BitVec.ofNat 32 v).toInt : ℝ) : EReal) = _
  have e : (BitVec.ofNat 32 v).toNat = v := by rw [BitVec.toNat_ofNat]; omega
  rw [BitVec.toInt_eq_toNat_of_lt (by rw [e]; omega), e]
  simp

/-- A float lane number as a word. -/
theorem fptosi_lane (v : ℕ) (h : v < 1024) : Ideal.fptosi 32 ((v : ℝ) : EReal) = BitVec.ofNat 32 v := by
  rw [Ideal.fptosi, Ideal.toIntClamped_coe, if_pos (Nat.cast_nonneg v), Int.floor_natCast, min_eq_right (by norm_num; omega),
    max_eq_right (by norm_num)]
  simp

theorem lane_inj (v w : Fin 1024) : ((v.val : ℝ) : EReal) = ((w.val : ℝ) : EReal) ↔ v = w := by
  rw [EReal.coe_eq_coe_iff, Nat.cast_inj, Fin.val_inj]

/-- A truth value as a float. -/
theorem sitofp_bool (p : Prop) [Decidable p] :
    FloatOps.sitofp (F := Ideal) .f32 (BitVec.setWidth 32 (BitVec.ofBool (decide p))) = if p then 1 else 0 := by
  by_cases h : p
  · simp only [h, decide_true, if_true]
    show ((((BitVec.setWidth 32 (BitVec.ofBool true)).toInt : ℤ) : ℝ) : EReal) = 1
    rw [show (BitVec.setWidth 32 (BitVec.ofBool true)).toInt = 1 by decide]; simp
  · simp only [h, decide_false, if_false]
    show ((((BitVec.setWidth 32 (BitVec.ofBool false)).toInt : ℤ) : ℝ) : EReal) = 0
    rw [show (BitVec.setWidth 32 (BitVec.ofBool false)).toInt = 0 by decide]; simp

end Cert.Rvq
-- ==== Proof.Tile.lean ====
/- What one grid point computes: the layers of one half of its rows, as functions of the rows and of the prepared codebooks. -/
module

public import proofs.«01_k».proof.Proof.Gen.KernelIdeal.Skeleton

@[expose] public section

set_option maxRecDepth 16384

noncomputable section

namespace Cert.Rvq

open Cert.KernelIdeal Cert.KernelIdeal.Gen Idealize.ShloMosaic Idealize.ShloMosaic.TcCoe Idealize.SL.Sem

variable {F : FTy → Type} [FloatOps F]

/-- The squared length of every row, as a column. -/
def sqV (r : FVec F S512x64 .f32) : FVec F S512x1 .f32 :=
  shapeCast S512x1 (multiReduction .add [1] S512 (mulf r r) 0x00000000#32 reduces_S512x64_S512 (.inl rfl) rfl) shapeCasts_S512_S512x1

/-- The squared distances of every row to every entry, from the entries times minus two and their squared lengths. -/
def dstV (r : FVec F S512x64 .f32) (s : FVec F S1024x64 .bf16) (c : FVec F S1x1024 .f32) : FVec F S512x1024 .f32 :=
  addf (addf (broadcastTo S512x1024 (sqV r) broadcasts_S512x1_S512x1024)
      (matmul dot_S512x64_S1024x64_S512x1024_1_1_0_0_n_n none (truncf .bf16 r bitsLt_bf16_f32) s (constant S512x1024 .f32 0x00000000#32)))
    (broadcastTo S512x1024 c broadcasts_S1x1024_S512x1024)

/-- The least value of every row, as a column. -/
def minV (d : FVec F S512x1024 .f32) : FVec F S512x1 .f32 :=
  shapeCast S512x1 (multiReduction .minimumf [1] S512 d 0x7F800000#32 reduces_S512x1024_S512 (.inl rfl) rfl) shapeCasts_S512_S512x1

/-- The lane numbers. -/
def laneF : FVec F S512x1024 .f32 := sitofp .f32 (iota .tc S512x1024 32 [1] iota_S512x1024_d1_w32)

/-- The first lane of every row that holds the row's least value, as a column of floats. -/
def firstV (d : FVec F S512x1024 .f32) : FVec F S512x1 .f32 :=
  minV (select (cmpf .oeq d (broadcastTo S512x1024 (minV d) broadcasts_S512x1_S512x1024)) laneF
    (broadcast S512x1024 (Scalar.ofBits .f32 0x44800000#32)))

/-- One at the named lane of every row and zero elsewhere. -/
def hotV (i : FVec F S512x1 .f32) : FVec F S512x1024 .bf16 :=
  truncf .bf16 (sitofp .f32 (extui 32 (cmpf .oeq laneF (broadcastTo S512x1024 i broadcasts_S512x1_S512x1024)) natLt_1_32)) bitsLt_bf16_f32

/-- The three parts of the named entries. -/
def partsV (i : FVec F S512x1 .f32) (t : FVec F S1024x192 .bf16) : FVec F S512x192 .f32 :=
  matmul dot_S512x1024_S1024x192_S512x192_1_0_0_1_n_n none (hotV i) t (constant S512x192 .f32 0x00000000#32)

/-- A row less the sum of the entry's three parts. -/
def lessV (r : FVec F S512x64 .f32) (p : FVec F S512x192 .f32) : FVec F S512x64 .f32 :=
  subf r (addf (addf (extractStridedSlice S512x64 ![0, 0] p slices_S512x192_o0_0_S512x64)
      (extractStridedSlice S512x64 ![0, 64] p slices_S512x192_o0_64_S512x64))
    (extractStridedSlice S512x64 ![0, 128] p slices_S512x192_o0_128_S512x64))

/-- The prepared codebooks, layer by layer: the entries times minus two, their three parts side by side, and their squared lengths. -/
structure Books (F : FTy → Type) where
  /-- The entries times minus two. -/
  s : ℕ → FVec F S1024x64 .bf16
  /-- The entries' three parts. -/
  t : ℕ → FVec F S1024x192 .bf16
  /-- The entries' squared lengths. -/
  c : ℕ → FVec F S1x1024 .f32

/-- The chosen entry of every row in layer `n`, the residual being `r`. -/
def chosenV (B : Books F) (n : ℕ) (r : FVec F S512x64 .f32) : FVec F S512x1 .f32 := firstV (dstV r (B.s n) (B.c n))

/-- The residual before layer `n`. -/
def resT (B : Books F) (x : FVec F S512x64 .f32) : ℕ → FVec F S512x64 .f32
  | 0 => x
  | n + 1 => lessV (resT B x n) (partsV (chosenV B n (resT B x n)) (B.t n))

/-- The index column of layer `n`. -/
def idxT (B : Books F) (x : FVec F S512x64 .f32) (n : ℕ) : IVec S512x1 32 := fptosi 32 (chosenV B n (resT B x n))

/-- Eight index columns side by side. -/
def idx8 (i : ℕ → IVec S512x1 32) : IVec S512x8 32 :=
  concatenate S512x8 1 [⟨S512x1, i 0⟩, ⟨S512x1, i 1⟩, ⟨S512x1, i 2⟩, ⟨S512x1, i 3⟩, ⟨S512x1, i 4⟩, ⟨S512x1, i 5⟩, ⟨S512x1, i 6⟩, ⟨S512x1, i 7⟩]
    concatenates_S512x1_S512x1_S512x1_S512x1_S512x1_S512x1_S512x1_S512x1_S512x8_d1

/-- The sum of a half's squared lengths, from the column of the rows' squared lengths. -/
def colSum (r : FVec F S512x64 .f32) : F .f32 :=
  extractAt ![0, 0, 0] (shapeCast S1x1x1 (multiReduction .add [1, 2] S1 (shapeCast S1x512x1 (sqV r) shapeCasts_S512x1_S1x512x1)
    0x00000000#32 reduces_S1x512x1_S1 (.inl rfl) rfl) shapeCasts_S1_S1x1x1) inpos_S1x1x1_p0_0_0

/-- The sum of a half's squared lengths, from all the squares. -/
def allSum (r : FVec F S512x64 .f32) : F .f32 :=
  extractAt ![0, 0, 0] (shapeCast S1x1x1 (multiReduction .add [1, 2] S1 (shapeCast S1x512x64 (mulf r r) shapeCasts_S512x64_S1x512x64)
    0x00000000#32 reduces_S1x512x64_S1 (.inl rfl) rfl) shapeCasts_S1_S1x1x1) inpos_S1x1x1_p0_0_0

/-- A number at lane `n` of eight, zero elsewhere. -/
def laneV (n : ℕ) (x : F .f32) : FVec F S1x8 .f32 :=
  select (cmpi .eq (iota .tc S1x8 32 [1] iota_S1x8_d1_w32) (broadcast S1x8 (BitVec.ofNat 32 n))) (broadcast S1x8 x)
    (broadcast S1x8 (Scalar.ofBits .f32 0x00000000#32))

/-- The sums of the first `n` layers, the two halves' residuals being `a` and `b`. -/
def sumsV (a b : ℕ → FVec F S512x64 .f32) : ℕ → FVec F S1x8 .f32
  | 0 => broadcast S1x8 (Scalar.ofBits .f32 0x00000000#32)
  | n + 1 => addf (addf (sumsV a b n) (laneV n (colSum (a (n + 1))))) (laneV n (colSum (b (n + 1))))

/-- The sums of all eight layers. -/
def sums8 (a b : ℕ → FVec F S512x64 .f32) : FVec F S1x8 .f32 :=
  addf (sumsV a b 7) (laneV 7 (Scalar.addf (Scalar.addf (Scalar.ofBits .f32 0x00000000#32) (allSum (a 8))) (allSum (b 8))))

end Cert.Rvq
-- ==== Proof.Block.lean ====
/- A block's two halves, the three scratch arrays, and what a grid point makes of them. -/
module

public import proofs.«01_k».proof.Proof.Tile
public import Idealize.ShloMosaic.Lib.Pipeline.FrameBody

@[expose] public section

set_option maxRecDepth 65536

noncomputable section

namespace Cert.Rvq

open Cert.KernelIdeal Cert.KernelIdeal.Gen Idealize.ShloMosaic Idealize.ShloMosaic.TcCoe Idealize.SL.Sem

variable {F : FTy → Type} [FloatOps F]

/-- The half of a block starting at row 0. -/
def loR : Rect S1024x64 := Rect.unit ![0, 0] S512x64.size inb_S1024x64_S512x64_0_0
/-- The half of a block starting at row 512. -/
def hiR : Rect S1024x64 := Rect.unit ![512, 0] S512x64.size inb_S1024x64_S512x64_512_0
/-- The half of an index block starting at row 0. -/
def loI : Rect S1024x8 := Rect.unit ![0, 0] S512x8.size inb_S1024x8_S512x8_0_0
/-- The half of an index block starting at row 512. -/
def hiI : Rect S1024x8 := Rect.unit ![512, 0] S512x8.size inb_S1024x8_S512x8_512_0

theorem inb_s (n : ℕ) : ∀ a, (![n % 8, 0, 0] : Fin 3 → ℕ) a + S1x1024x64.size a ≤ S8x1024x64.size a := by
  have := Nat.mod_lt n (show 0 < 8 by decide)
  intro a; fin_cases a <;> simp [S1x1024x64, S8x1024x64] <;> omega
theorem inb_t (n : ℕ) : ∀ a, (![n % 8, 0, 0] : Fin 3 → ℕ) a + S1x1024x192.size a ≤ S8x1024x192.size a := by
  have := Nat.mod_lt n (show 0 < 8 by decide)
  intro a; fin_cases a <;> simp [S1x1024x192, S8x1024x192] <;> omega
theorem inb_c (n : ℕ) : ∀ a, (![n % 8, 0, 0] : Fin 3 → ℕ) a + S1x1x1024.size a ≤ S8x1x1024.size a := by
  have := Nat.mod_lt n (show 0 < 8 by decide)
  intro a; fin_cases a <;> simp [S1x1x1024, S8x1x1024] <;> omega

/-- Layer `n`'s part of the codebooks. -/
def secS (n : ℕ) : Rect S8x1024x64 := Rect.unit ![n % 8, 0, 0] S1x1024x64.size (inb_s n)
/-- Layer `n`'s part of the entries' three parts. -/
def secT (n : ℕ) : Rect S8x1024x192 := Rect.unit ![n % 8, 0, 0] S1x1024x192.size (inb_t n)
/-- Layer `n`'s part of the squared lengths. -/
def secC (n : ℕ) : Rect S8x1x1024 := Rect.unit ![n % 8, 0, 0] S1x1x1024.size (inb_c n)

/-- The prepared codebooks, from how the three scratch arrays are read layer by layer. -/
def booksFrom (s : ℕ → Vec F S1x1024x64 .bf16) (t : ℕ → Vec F S1x1024x192 .bf16) (c : ℕ → Vec F S1x1x1024 .f32) : Books F where
  s n := shapeCast S1024x64 (s n) shapeCasts_S1x1024x64_S1024x64
  t n := shapeCast S1024x192 (t n) shapeCasts_S1x1024x192_S1024x192
  c n := shapeCast S1x1024 (c n) shapeCasts_S1x1x1024_S1x1024

/-- The prepared codebooks read out of the three scratch arrays. -/
def booksOf (xs0 : Vec F S8x1024x64 .bf16) (xs1 : Vec F S8x1024x192 .bf16) (xs2 : Vec F S8x1x1024 .f32) : Books F :=
  booksFrom (fun n => View.ld xs0 (secS n)) (fun n => View.ld xs1 (secT n)) (fun n => View.ld xs2 (secC n))

/-- A codebook as a matrix. -/
def matV (v : Vec F S1x1024x64 .f32) : FVec F S1024x64 .f32 := shapeCast S1024x64 v shapeCasts_S1x1024x64_S1024x64
/-- The first part of a codebook. -/
def oneP (v : Vec F S1x1024x64 .f32) : FVec F S1024x64 .bf16 := truncf .bf16 (matV v) bitsLt_bf16_f32
/-- What the first part leaves. -/
def remP (v : Vec F S1x1024x64 .f32) : FVec F S1024x64 .f32 := subf (matV v) (extf .f32 (oneP v) bitsLt_bf16_f32)
/-- The second part of a codebook. -/
def twoP (v : Vec F S1x1024x64 .f32) : FVec F S1024x64 .bf16 := truncf .bf16 (remP v) bitsLt_bf16_f32
/-- The third part of a codebook. -/
def threeP (v : Vec F S1x1024x64 .f32) : FVec F S1024x64 .bf16 :=
  truncf .bf16 (subf (remP v) (extf .f32 (twoP v) bitsLt_bf16_f32)) bitsLt_bf16_f32

/-- The first part of a codebook times minus two. -/
def prepS (v : Vec F S1x1024x64 .f32) : FVec F S1x1024x64 .bf16 :=
  shapeCast S1x1024x64 (mulf (oneP v) (broadcast S1024x64 (Scalar.ofBits .bf16 0xC000#16))) shapeCasts_S1024x64_S1x1024x64
/-- The three parts of a codebook side by side. -/
def prepT (v : Vec F S1x1024x64 .f32) : FVec F S1x1024x192 .bf16 :=
  shapeCast S1x1024x192 (concatenate S1024x192 1 [⟨S1024x64, oneP v⟩, ⟨S1024x64, twoP v⟩, ⟨S1024x64, threeP v⟩]
    concatenates_S1024x64_S1024x64_S1024x64_S1024x192_d1) shapeCasts_S1024x192_S1x1024x192
/-- The squared lengths of a codebook's entries. -/
def prepC (v : Vec F S1x1024x64 .f32) : FVec F S1x1x1024 .f32 :=
  shapeCast S1x1x1024 (shapeCast S1x1024 (multiReduction .add [1] S1024 (mulf (matV v) (matV v)) 0x00000000#32 reduces_S1024x64_S1024 (.inl rfl) rfl)
    shapeCasts_S1024_S1x1024) shapeCasts_S1x1024_S1x1x1024

/-- Eight pieces, the last layer's first. -/
def eight {S : Shape} {e : EltTy} (p : ℕ → View.Piece (Elt F) S e) : List (View.Piece (Elt F) S e) :=
  [p 7, p 6, p 5, p 4, p 3, p 2, p 1, p 0]

/-- The pieces stored into the first scratch array. -/
def listS (x1 : Vec F S8x1024x64 .f32) : List (View.Piece (Elt F) S8x1024x64 .bf16) := eight fun n => ⟨secS n, prepS (View.ld x1 (secS n))⟩
/-- The pieces stored into the second scratch array. -/
def listT (x1 : Vec F S8x1024x64 .f32) : List (View.Piece (Elt F) S8x1024x192 .bf16) := eight fun n => ⟨secT n, prepT (View.ld x1 (secS n))⟩
/-- The pieces stored into the third scratch array. -/
def listC (x1 : Vec F S8x1024x64 .f32) : List (View.Piece (Elt F) S8x1x1024 .f32) := eight fun n => ⟨secC n, prepC (View.ld x1 (secS n))⟩

/-- The codebooks as the first grid point prepares them. -/
def booksIn (x1 : Vec F S8x1024x64 .f32) : Books F := booksOf (View.canon (listS x1)) (View.canon (listT x1)) (View.canon (listC x1))

/-- The pieces of a quantized block, the halves' rows being `lo` and `hi`. -/
def listY (B : Books F) (lo hi : Vec F S512x64 .f32) : List (View.Piece (Elt F) S1024x64 .f32) :=
  [⟨hiR, subf hi (resT B hi 8)⟩, ⟨loR, subf lo (resT B lo 8)⟩]
/-- The pieces of an index block. -/
def listI (B : Books F) (lo hi : Vec F S512x64 .f32) : List (View.Piece (Elt F) S1024x8 .i32) :=
  [⟨hiI, idx8 (idxT B hi)⟩, ⟨loI, idx8 (idxT B lo)⟩]
/-- A block's sums. -/
def sumB (B : Books F) (lo hi : Vec F S512x64 .f32) : FVec F S1x8 .f32 := sums8 (resT B lo) (resT B hi)

/-- The quantized values of a block of rows. -/
def blockY (B : Books F) (x0 : Vec F S1024x64 .f32) : Vec F S1024x64 .f32 := View.canon (listY B (View.ld x0 loR) (View.ld x0 hiR))
/-- The indices of a block of rows. -/
def blockI (B : Books F) (x0 : Vec F S1024x64 .f32) : Vec F S1024x8 .i32 := View.canon (listI B (View.ld x0 loR) (View.ld x0 hiR))
/-- The sums of a block of rows. -/
def blockS (B : Books F) (x0 : Vec F S1024x64 .f32) : Vec F S1x8 .f32 := sumB B (View.ld x0 loR) (View.ld x0 hiR)

end Cert.Rvq
-- ==== Proof.TileIdeal.lean ====
/- The layers of one half over the extended reals: on finite rows and codebooks they are the real specification's. -/
module

public import proofs.«01_k».proof.Proof.Tile
public import proofs.«01_k».proof.Proof.Consts
public import proofs.«01_k».proof.Proof.Gen.KernelIdeal

@[expose] public section

set_option maxRecDepth 16384

noncomputable section

namespace Cert.Rvq

open Cert.KernelIdeal Cert.KernelIdeal.Gen Idealize.ShloMosaic Idealize.ShloMosaic.TcCoe Idealize.SL.Sem

/-- The prepared codebooks hold the real codebooks `C`. -/
structure Holds (B : Books Ideal) (C : ℕ → Book) : Prop where
  s : ∀ n v d, B.s n (ix2 v d) = ((C n v d * -2 : ℝ) : EReal)
  t0 : ∀ n v (d : Fin 64), B.t n (ix2 v ⟨d.val, by omega⟩) = ((C n v d : ℝ) : EReal)
  t1 : ∀ n v (d : Fin 64), B.t n (ix2 v ⟨64 + d.val, by omega⟩) = 0
  t2 : ∀ n v (d : Fin 64), B.t n (ix2 v ⟨128 + d.val, by omega⟩) = 0
  c : ∀ n v, B.c n (ix2 0 v) = ((sq (C n v) : ℝ) : EReal)

/-- The array of rows holds the real rows `R`. -/
def RowsAre (r : FVec Ideal S512x64 .f32) (R : Fin 512 → Row) : Prop := ∀ a d, r (ix2 a d) = ((R a d : ℝ) : EReal)

variable {r : FVec Ideal S512x64 .f32} {R : Fin 512 → Row} {B : Books Ideal} {C : ℕ → Book}

theorem dstV_eq (hr : RowsAre r R) (hB : Holds B C) (n : ℕ) (a : Fin 512) (v : Fin 1024) :
    dstV r (B.s n) (B.c n) (ix2 a v) = ((dist (R a) (C n) v : ℝ) : EReal) := by
  pointwise [dstV, sqV]
  simp only [hr a, hB.s, hB.c, ← EReal.coe_mul, ← coe_sum, ← EReal.coe_add]
  congr 1
  unfold dist sq
  rw [sub_eq_add_neg, Finset.mul_sum, ← Finset.sum_neg_distrib]
  congr 2
  exact Finset.sum_congr rfl fun d _ => by ring

theorem minV_eq (d : FVec Ideal S512x1024 .f32) (a : Fin 512) (f : Fin 1024 → ℝ) (h : ∀ v, d (ix2 a v) = ((f v : ℝ) : EReal)) :
    minV d (ix2 a 0) = ((f (first f) : ℝ) : EReal) := by
  pointwise [minV]
  rw [ofBits_inf]
  exact fold_min _ _ (fun v => by rw [h]; exact EReal.coe_le_coe_iff.mpr ((first_spec f).1 v)) (first f) (h _)

theorem firstV_eq (d : FVec Ideal S512x1024 .f32) (a : Fin 512) (f : Fin 1024 → ℝ) (h : ∀ v, d (ix2 a v) = ((f v : ℝ) : EReal)) :
    firstV d (ix2 a 0) = (((first f).val : ℝ) : EReal) := by
  have hm := minV_eq d a f h
  pointwise [firstV, minV, laneF] at hm ⊢
  rw [ofBits_inf] at hm
  rw [ofBits_inf, ofBits_1024, hm]
  refine fold_min _ _ (fun v => ?_) (first f) ?_
  · rw [h, sitofp_lane _ (by omega)]
    split
    · rename_i e
      rw [EReal.coe_eq_coe_iff] at e
      rw [EReal.coe_le_coe_iff, Nat.cast_le]
      by_contra hlt
      exact absurd e (ne_of_gt ((first_spec f).2 v (by simpa using hlt)))
    · rw [EReal.coe_le_coe_iff]
      exact_mod_cast (first f).isLt.le
  · rw [h, if_pos rfl, sitofp_lane _ (by omega)]

theorem partsV_eq (i : FVec Ideal S512x1 .f32) (t : FVec Ideal S1024x192 .bf16) (a : Fin 512) (k : Fin 192) (w : Fin 1024)
    (h : i (ix2 a 0) = ((w.val : ℝ) : EReal)) : partsV i t (ix2 a k) = t (ix2 w k) := by
  pointwise [partsV, hotV, laneF]
  rw [Finset.sum_eq_single w]
  · rw [h, sitofp_lane _ (by omega), sitofp_bool, if_pos rfl, one_mul]
  · intro v _ hv
    rw [h, sitofp_lane _ (by omega), sitofp_bool, if_neg (by rw [lane_inj]; exact hv), zero_mul]
  · exact fun hn => absurd (Finset.mem_univ _) hn

theorem chosenV_eq (hr : RowsAre r R) (hB : Holds B C) (n : ℕ) (a : Fin 512) :
    chosenV B n r (ix2 a 0) = (((pick (R a) (C n)).val : ℝ) : EReal) :=
  firstV_eq _ a _ fun v => dstV_eq hr hB n a v

theorem nextV_eq (hr : RowsAre r R) (hB : Holds B C) (n : ℕ) :
    RowsAre (lessV r (partsV (chosenV B n r) (B.t n))) fun a => next (R a) (C n) := fun a d => by
  have e := chosenV_eq hr hB n a
  pointwise [lessV]
  rw [partsV_eq _ _ a _ _ e, partsV_eq _ _ a _ _ e, partsV_eq _ _ a _ _ e, hB.t0, hB.t1, hB.t2, hr a, add_zero, add_zero, ← EReal.coe_sub]
  rfl

/-- The residuals are the specification's. -/
theorem resT_eq (hr : RowsAre r R) (hB : Holds B C) : ∀ n, RowsAre (resT B r n) fun a => res C (R a) n
  | 0 => hr
  | n + 1 => nextV_eq (resT_eq hr hB n) hB n

/-- The indices are the specification's. -/
theorem idxT_eq (hr : RowsAre r R) (hB : Holds B C) (n : ℕ) (a : Fin 512) :
    idxT B r n (ix2 a 0) = BitVec.ofNat 32 (code C (R a) n).val := by
  have e := chosenV_eq (resT_eq hr hB n) hB n a
  pointwise [idxT]
  rw [e]
  exact fptosi_lane _ (Fin.isLt _)

theorem colSum_eq (hr : RowsAre r R) : colSum r = ((∑ a, sq (R a) : ℝ) : EReal) := by
  pointwise [colSum, sqV]
  simp only [hr _ _, ← EReal.coe_mul, ← coe_sum, Fin.sum_univ_one]
  rfl

theorem allSum_eq (hr : RowsAre r R) : allSum r = ((∑ a, sq (R a) : ℝ) : EReal) := by
  pointwise [allSum]
  simp only [hr _ _, ← EReal.coe_mul, ← coe_sum]
  rfl

theorem laneV_eq (n : ℕ) (hn : n < 8) (x : Ideal .f32) (k : Fin 8) : laneV n x (ix2 0 k) = if k.val = n then x else 0 := by
  pointwise [laneV]
  have := k.isLt
  by_cases h : k.val = n
  · simp [h, Scalar.select, IntOp.cmpi]
  · rw [if_neg h]
    have : BitVec.ofNat 32 k.val ≠ BitVec.ofNat 32 n := fun e => h (by
      have := congrArg BitVec.toNat e
      simp only [BitVec.toNat_ofNat] at this
      omega)
    have e : (BitVec.ofNat 32 k.val == BitVec.ofNat 32 n) = false := beq_eq_false_iff_ne.mpr this
    simp [e, Scalar.select, IntOp.cmpi]

/-- The column of eight indices at a lane. -/
theorem idx8_eq (i : ℕ → IVec S512x1 32) (a : Fin 512) (k : Fin 8) : idx8 i (ix2 a k) = i k.val (ix2 a 0) := by
  pointwise [idx8]
  fin_vals k with hk
  all_goals simp only [hk, Nat.reduceSub, Nat.reduceLT, ↓reduceDIte]
  all_goals rfl

end Cert.Rvq
-- ==== Proof.Slabs.lean ====
/- The prepared codebooks hold the real codebooks; a block's two outputs at an index. -/
module

public import proofs.«01_k».proof.Proof.Block
public import proofs.«01_k».proof.Proof.TileIdeal
public import Idealize.ShloMosaic.Lib.Pipeline.ValueKit.Tiles

@[expose] public section

set_option maxRecDepth 16384

noncomputable section

namespace Cert.Rvq

open Cert.KernelIdeal Cert.KernelIdeal.Gen Idealize.ShloMosaic Idealize.ShloMosaic.TcCoe Idealize.SL.Sem

/-- Eight pieces read at an index that one of them holds, if all that hold it agree. -/
theorem canon_eight {S : Shape} {e : EltTy} (p : ℕ → View.Piece (Elt Ideal) S e) (y : S.Idx) (v : Elt Ideal e) (k : ℕ) (hk : k < 8)
    (hy : y ∈ (p k).1.set) (h : ∀ n, n < 8 → ∀ x, (p n).1.emb x = y → (p n).2 x = v) : View.canon (eight p) y = v := by
  refine View.canon_eq_of_allAt _ _ _ ⟨p k, ?_, hy⟩ fun q hq => ?_
  · have : k = 0 ∨ k = 1 ∨ k = 2 ∨ k = 3 ∨ k = 4 ∨ k = 5 ∨ k = 6 ∨ k = 7 := by omega
    rcases this with h | h | h | h | h | h | h | h <;> subst h <;> simp [eight]
  · obtain ⟨n, hn, rfl⟩ : ∃ n, n < 8 ∧ q = p n := by
      simp only [eight, List.mem_cons, List.not_mem_nil, or_false] at hq
      rcases hq with h | h | h | h | h | h | h | h <;> exact ⟨_, by omega, h⟩
    exact h n hn

/-- The index of layer `n` in an array of eight layers. -/
def layer (n : ℕ) : Fin 8 := ⟨n % 8, Nat.mod_lt n (by decide)⟩

theorem secS_idx (n : ℕ) (v : Fin 1024) (d : Fin 64) : (secS n).idx (ix3 0 v d) = ix3 (layer n) v d := by
  funext a; apply Fin.ext; unfold secS; rw [Rect.idx_unit_val]
  fin_cases a <;> simp [layer] <;> rfl
theorem secT_idx (n : ℕ) (v : Fin 1024) (d : Fin 192) : (secT n).idx (ix3 0 v d) = ix3 (layer n) v d := by
  funext a; apply Fin.ext; unfold secT; rw [Rect.idx_unit_val]
  fin_cases a <;> simp [layer] <;> rfl
theorem secC_idx (n : ℕ) (v : Fin 1024) : (secC n).idx (ix3 0 0 v) = ix3 (layer n) 0 v := by
  funext a; apply Fin.ext; unfold secC; rw [Rect.idx_unit_val]
  fin_cases a <;> simp [layer] <;> rfl

theorem ofS (x : (⟨3, S1x1024x64.size⟩ : Shape).Idx) : x = ix3 (0 : Fin 1) (x 1) (x 2) := by
  funext a; fin_cases a
  · exact Fin.ext (by have : (x 0).val < 1 := (x 0).isLt; show (x 0).val = 0; omega)
  · rfl
  · rfl
theorem ofT (x : (⟨3, S1x1024x192.size⟩ : Shape).Idx) : x = ix3 (0 : Fin 1) (x 1) (x 2) := by
  funext a; fin_cases a
  · exact Fin.ext (by have : (x 0).val < 1 := (x 0).isLt; show (x 0).val = 0; omega)
  · rfl
  · rfl
theorem ofC (x : (⟨3, S1x1x1024.size⟩ : Shape).Idx) : x = ix3 (0 : Fin 1) (0 : Fin 1) (x 2) := by
  funext a; fin_cases a
  · exact Fin.ext (by have : (x 0).val < 1 := (x 0).isLt; show (x 0).val = 0; omega)
  · exact Fin.ext (by have : (x 1).val < 1 := (x 1).isLt; show (x 1).val = 0; omega)
  · rfl

theorem layer_lt {n m : ℕ} (hn : n < 8) (h : layer n = layer m) : n = m % 8 := by
  have := congrArg Fin.val h
  simp only [layer] at this
  omega

variable (x1 : Vec Ideal S8x1024x64 .f32)

theorem canonS_eq (m : ℕ) (v : Fin 1024) (d : Fin 64) :
    View.canon (listS x1) (ix3 (layer m) v d) = prepS (View.ld x1 (secS (m % 8))) (ix3 0 v d) := by
  refine canon_eight _ _ _ (m % 8) (Nat.mod_lt m (by decide)) ?_ fun n hn x hx => ?_
  · rw [show ix3 (layer m) v d = (secS (m % 8)).idx (ix3 0 v d) by rw [secS_idx]; simp [layer]]
    exact (secS (m % 8)).idx_mem _
  · have e := hx.symm.trans ((congrArg (secS n).idx (ofS x)).trans (secS_idx n (x 1) (x 2)))
    have e0 := layer_lt hn (congrFun e 0).symm
    have e1 : v = x 1 := congrFun e 1
    have e2 : d = x 2 := congrFun e 2
    subst e0 e1 e2
    exact congrArg (prepS (View.ld x1 (secS (m % 8)))) (ofS x)

theorem canonT_eq (m : ℕ) (v : Fin 1024) (d : Fin 192) :
    View.canon (listT x1) (ix3 (layer m) v d) = prepT (View.ld x1 (secS (m % 8))) (ix3 0 v d) := by
  refine canon_eight _ _ _ (m % 8) (Nat.mod_lt m (by decide)) ?_ fun n hn x hx => ?_
  · rw [show ix3 (layer m) v d = (secT (m % 8)).idx (ix3 0 v d) by rw [secT_idx]; simp [layer]]
    exact (secT (m % 8)).idx_mem _
  · have e := hx.symm.trans ((congrArg (secT n).idx (ofT x)).trans (secT_idx n (x 1) (x 2)))
    have e0 := layer_lt hn (congrFun e 0).symm
    have e1 : v = x 1 := congrFun e 1
    have e2 : d = x 2 := congrFun e 2
    subst e0 e1 e2
    exact congrArg (prepT (View.ld x1 (secS (m % 8)))) (ofT x)

theorem canonC_eq (m : ℕ) (v : Fin 1024) :
    View.canon (listC x1) (ix3 (layer m) 0 v) = prepC (View.ld x1 (secS (m % 8))) (ix3 0 0 v) := by
  refine canon_eight _ _ _ (m % 8) (Nat.mod_lt m (by decide)) ?_ fun n hn x hx => ?_
  · rw [show ix3 (layer m) (0 : Fin 1) v = (secC (m % 8)).idx (ix3 0 0 v) by rw [secC_idx]; simp [layer]]
    exact (secC (m % 8)).idx_mem _
  · have e := hx.symm.trans ((congrArg (secC n).idx (ofC x)).trans (secC_idx n (x 2)))
    have e0 := layer_lt hn (congrFun e 0).symm
    have e2 : v = x 2 := congrFun e 2
    subst e0 e2
    exact congrArg (prepC (View.ld x1 (secS (m % 8)))) (ofC x)

section
variable (w : Vec Ideal S1x1024x64 .f32) (f : Book) (h : ∀ v d, w (ix3 0 v d) = ((f v d : ℝ) : EReal))
include h

theorem prepS_eq (v : Fin 1024) (d : Fin 64) : prepS w (ix3 0 v d) = ((f v d * -2 : ℝ) : EReal) := by
  pointwise [prepS, oneP, matV]
  rw [h, ofBits_neg_two, ← EReal.coe_mul]

theorem prepC_eq (v : Fin 1024) : prepC w (ix3 0 0 v) = ((sq (f v) : ℝ) : EReal) := by
  pointwise [prepC, matV]
  simp only [h, ← EReal.coe_mul, ← coe_sum]
  rfl

theorem oneP_eq (v : Fin 1024) (d : Fin 64) : oneP w (ix2 v d) = ((f v d : ℝ) : EReal) := by
  pointwise [oneP, matV]
  exact h v d

theorem remP_eq (v : Fin 1024) (d : Fin 64) : remP w (ix2 v d) = 0 := by
  have e := oneP_eq w f h v d
  pointwise [remP, matV]
  rw [e, h, ← EReal.coe_sub, sub_self, EReal.coe_zero]

theorem twoP_eq (v : Fin 1024) (d : Fin 64) : twoP w (ix2 v d) = 0 := by
  have e := remP_eq w f h v d
  pointwise [twoP]
  exact e

theorem threeP_eq (v : Fin 1024) (d : Fin 64) : threeP w (ix2 v d) = 0 := by
  have e := remP_eq w f h v d
  have e' := twoP_eq w f h v d
  pointwise [threeP]
  rw [e, e', sub_zero]

theorem prepT_eq0 (v : Fin 1024) (d : Fin 64) : prepT w (ix3 0 v ⟨d.val, by omega⟩) = ((f v d : ℝ) : EReal) := by
  have e := oneP_eq w f h v d
  pointwise [prepT]
  simpa using e

theorem prepT_eq1 (v : Fin 1024) (d : Fin 64) : prepT w (ix3 0 v ⟨64 + d.val, by omega⟩) = 0 := by
  have e := twoP_eq w f h v d
  pointwise [prepT]
  simpa using e

theorem prepT_eq2 (v : Fin 1024) (d : Fin 64) : prepT w (ix3 0 v ⟨128 + d.val, by omega⟩) = 0 := by
  have e := threeP_eq w f h v d
  pointwise [prepT]
  rw [dif_neg (by omega), dif_neg (by omega), ← e]
  exact congrArg (fun k => threeP w (ix2 v k)) (Fin.ext (show 128 + d.val - 64 - 64 = d.val by omega))
end

theorem castS (w : Vec Ideal S1x1024x64 .bf16) (v : Fin 1024) (d : Fin 64) :
    shapeCast S1024x64 w shapeCasts_S1x1024x64_S1024x64 (ix2 v d) = w (ix3 0 v d) := by pointwise
theorem castT (w : Vec Ideal S1x1024x192 .bf16) (v : Fin 1024) (d : Fin 192) :
    shapeCast S1024x192 w shapeCasts_S1x1024x192_S1024x192 (ix2 v d) = w (ix3 0 v d) := by pointwise
theorem castC (w : Vec Ideal S1x1x1024 .f32) (v : Fin 1024) :
    shapeCast S1x1024 w shapeCasts_S1x1x1024_S1x1024 (ix2 0 v) = w (ix3 0 0 v) := by pointwise

/-- The array of codebooks holds the real codebooks `C`. -/
def BooksAre (x1 : Vec Ideal S8x1024x64 .f32) (C : ℕ → Book) : Prop := ∀ n v d, x1 (ix3 (layer n) v d) = ((C n v d : ℝ) : EReal)

variable {x1} {C : ℕ → Book}

theorem layer_mod (n : ℕ) : layer (n % 8) = layer n := by simp [layer]

theorem ldS (h : BooksAre x1 C) (n : ℕ) (v : Fin 1024) (d : Fin 64) :
    (View.ld x1 (secS (n % 8)) : Vec Ideal S1x1024x64 .f32) (ix3 0 v d) = ((C n v d : ℝ) : EReal) :=
  (congrArg x1 ((secS_idx (n % 8) v d).trans (congrArg (fun k => ix3 k v d) (layer_mod n)))).trans (h n v d)

theorem booksOf_s (xs0 : Vec Ideal S8x1024x64 .bf16) (xs1 : Vec Ideal S8x1024x192 .bf16) (xs2 : Vec Ideal S8x1x1024 .f32) (n : ℕ) (v : Fin 1024)
    (d : Fin 64) : (booksOf xs0 xs1 xs2).s n (ix2 v d) = xs0 (ix3 (layer n) v d) :=
  (castS (View.ld (Val := Elt Ideal) (e' := .bf16) xs0 (secS n)) v d).trans (congrArg xs0 (secS_idx n v d))
theorem booksOf_t (xs0 : Vec Ideal S8x1024x64 .bf16) (xs1 : Vec Ideal S8x1024x192 .bf16) (xs2 : Vec Ideal S8x1x1024 .f32) (n : ℕ) (v : Fin 1024)
    (d : Fin 192) : (booksOf xs0 xs1 xs2).t n (ix2 v d) = xs1 (ix3 (layer n) v d) :=
  (castT (View.ld (Val := Elt Ideal) (e' := .bf16) xs1 (secT n)) v d).trans (congrArg xs1 (secT_idx n v d))
theorem booksOf_c (xs0 : Vec Ideal S8x1024x64 .bf16) (xs1 : Vec Ideal S8x1024x192 .bf16) (xs2 : Vec Ideal S8x1x1024 .f32) (n : ℕ) (v : Fin 1024) :
    (booksOf xs0 xs1 xs2).c n (ix2 0 v) = xs2 (ix3 (layer n) 0 v) :=
  (castC (View.ld (Val := Elt Ideal) (e' := .f32) xs2 (secC n)) v).trans (congrArg xs2 (secC_idx n v))

theorem booksS (n : ℕ) (v : Fin 1024) (d : Fin 64) : (booksIn x1).s n (ix2 v d) = prepS (View.ld x1 (secS (n % 8))) (ix3 0 v d) := by
  unfold booksIn; rw [booksOf_s, canonS_eq]
theorem booksT (n : ℕ) (v : Fin 1024) (d : Fin 192) : (booksIn x1).t n (ix2 v d) = prepT (View.ld x1 (secS (n % 8))) (ix3 0 v d) := by
  unfold booksIn; rw [booksOf_t, canonT_eq]
theorem booksC (n : ℕ) (v : Fin 1024) : (booksIn x1).c n (ix2 0 v) = prepC (View.ld x1 (secS (n % 8))) (ix3 0 0 v) := by
  unfold booksIn; rw [booksOf_c, canonC_eq]

/-- The prepared codebooks hold the real codebooks. -/
theorem booksIn_holds (h : BooksAre x1 C) : Holds (booksIn x1) C where
  s n v d := (booksS n v d).trans (prepS_eq _ _ (ldS h n) v d)
  t0 n v d := (booksT n v _).trans (prepT_eq0 _ _ (ldS h n) v d)
  t1 n v d := (booksT n v _).trans (prepT_eq1 _ _ (ldS h n) v d)
  t2 n v d := (booksT n v _).trans (prepT_eq2 _ _ (ldS h n) v d)
  c n v := (booksC n v).trans (prepC_eq _ _ (ldS h n) v)

end Cert.Rvq
-- ==== Proof.Finite.lean ====
/- What the precondition says: every entry of both arguments is a real number. -/
module

public import proofs.«01_k».proof.Pre_finite
public import proofs.«01_k».proof.Proof.Consts
public import proofs.«01_k».proof.Proof.Slabs
public import Idealize.ShloMosaic.Lib.Pointwise

@[expose] public section

set_option maxRecDepth 16384

noncomputable section

namespace Cert.Rvq

open Idealize.ShloMosaic

/-- The facts the precondition's operations take. -/
theorem preFacts : Cert.Pre_finite.Facts where
  reducesTo_S65536x64_S_d0_1 := by decide
  h_S_ := by decide
  reducesTo_S8x1024x64_S_d0_1_2 := by decide

section Generic
variable {s t u : Shape} {axes : List (Fin s.rank)}

/-- If the greatest entry is below infinity, so is every entry. -/
theorem lt_of_reduce (x : FVec Ideal s .f32) (v : u.Idx → Ideal .f32) (h : s.ReducesTo axes t) (hu : 0 < u.numel) (j : t.Idx)
    (hlt : (show EReal from Host.reduce (FloatOps.maximumf (F := Ideal) (φ := .f32)) x v h hu j) < ⊤) (i : s.Idx) (hi : h.drop i = j) : (x i : EReal) < ⊤ := by
  have e : (show EReal from Host.reduce (FloatOps.maximumf (F := Ideal) (φ := .f32)) x v h hu j)
      = (Finset.univ.filter fun i => h.drop i = j).fold max (v (Shape.Idx.first hu) : EReal) (fun i => (x i : EReal)) :=
    Host.reduce_eq_fold (max : EReal → EReal → EReal) x v h hu j
  rw [e] at hlt
  exact ((Finset.fold_max_lt _).mp hlt).2 i (Finset.mem_filter.mpr ⟨Finset.mem_univ _, hi⟩)

/-- A number whose absolute value is below infinity is real. -/
theorem real_of_abs (x : EReal) (h : max x (-x) < ⊤) : x = ((x.toReal : ℝ) : EReal) := by
  refine (EReal.coe_toReal ?_ ?_).symm
  · rintro rfl; simp at h
  · rintro rfl; simp at h

/-- A number that compares below infinity is below it. -/
theorem lt_of_compare (g : FVec Ideal ⟨0, ![]⟩ .f32) (hc : cmpf .olt g (constant ⟨0, ![]⟩ .f32 0x7F800000#32) ix0 = 1#1) :
    (show EReal from g ix0) < ⊤ := by
  have hc' : Ideal.cmp .olt (show EReal from g ix0) (Ideal.ofBits .f32 0x7F800000#32) = 1#1 := hc
  rw [ofBits_inf] at hc'
  unfold Ideal.cmp at hc'
  by_contra hn
  simp [hn] at hc'

/-- An array whose greatest absolute value compares below infinity is real. -/
theorem real_of_compare (x : FVec Ideal s .f32) (h : s.ReducesTo axes ⟨0, ![]⟩) (hu : 0 < (⟨0, ![]⟩ : Shape).numel)
    (hc : cmpf .olt (Host.reduce FloatOps.maximumf (Host.absf x) (constant ⟨0, ![]⟩ .f32 0xFF800000#32) h hu) (constant ⟨0, ![]⟩ .f32 0x7F800000#32) ix0 = 1#1)
    (i : s.Idx) : (x i : EReal) = ((EReal.toReal (x i) : ℝ) : EReal) :=
  real_of_abs _ (lt_of_reduce (Host.absf x) _ h hu ix0 (lt_of_compare _ hc) i (funext fun a => a.elim0))

end Generic

theorem and_one : ∀ a b : BitVec 1, IntOp.andi a b = 1#1 → a = 1#1 ∧ b = 1#1 := by decide

/-- The precondition's two halves. -/
theorem real_of_pre [Cert.Pre_finite.Facts] (y : FVec Ideal Cert.Pre_finite.S65536x64 .f32) (cb : FVec Ideal Cert.Pre_finite.S8x1024x64 .f32)
    (h : Cert.Pre_finite.fn (F := Ideal) y cb = fun _ => 1#1) :
    (∀ i, (y i : EReal) = ((EReal.toReal (y i) : ℝ) : EReal)) ∧ ∀ i, (cb i : EReal) = ((EReal.toReal (cb i) : ℝ) : EReal) := by
  have h0 := and_one _ _ (congrFun h ix0)
  exact ⟨real_of_compare y _ _ h0.1, real_of_compare cb _ _ h0.2⟩

/-- The rows an array holds. -/
def realRows (y : FVec Ideal Cert.Pre_finite.S65536x64 .f32) : ℕ → Row := fun b d => EReal.toReal (y (ix2 ⟨b % 65536, Nat.mod_lt _ (by norm_num)⟩ d))

/-- The codebooks an array holds. -/
def realBooks (cb : FVec Ideal Cert.Pre_finite.S8x1024x64 .f32) : ℕ → Book := fun n v d => EReal.toReal (cb (ix3 (layer n) v d))

theorem realRows_eq (y : FVec Ideal Cert.Pre_finite.S65536x64 .f32) (h : ∀ i, (y i : EReal) = ((EReal.toReal (y i) : ℝ) : EReal))
    (b : Fin 65536) (d : Fin 64) : y (ix2 b d) = ((realRows y b.val d : ℝ) : EReal) := by
  refine (h _).trans ?_
  unfold realRows
  have e : (⟨b.val % 65536, Nat.mod_lt _ (by norm_num)⟩ : Fin 65536) = b := Fin.ext (Nat.mod_eq_of_lt b.isLt)
  rw [e]

theorem realBooks_eq (cb : FVec Ideal Cert.Pre_finite.S8x1024x64 .f32) (h : ∀ i, (cb i : EReal) = ((EReal.toReal (cb i) : ℝ) : EReal))
    (n : ℕ) (v : Fin 1024) (d : Fin 64) : cb (ix3 (layer n) v d) = ((realBooks cb n v d : ℝ) : EReal) := h _

end Cert.Rvq
-- ==== Proof.OneStore.lean ====
/- A store and a load of the whole array of sums. -/
module

public import proofs.«01_k».proof.Proof.Block
public import Idealize.ShloMosaic.Lib.Pipeline.ValueKit.Tiles

@[expose] public section

noncomputable section

namespace Cert.Rvq

open Cert.KernelIdeal Cert.KernelIdeal.Gen Idealize.ShloMosaic Idealize.ShloMosaic.TcCoe Idealize.SL.Sem

variable {F : FTy → Type} [FloatOps F]

/-- The whole array of sums. -/
def allR : Rect S1x8 := Rect.unit ![0, 0] S1x8.size inb_S1x8_S1x8_0_0

theorem zero2 : ∀ a, (![0, 0] : Fin 2 → ℕ) a = 0 := by decide

/-- A store of the whole array, last, leaves its payload. -/
theorem canon_all (w : FVec F S1x8 .f32) (L : List (View.Piece (Elt F) S1x8 .f32)) : View.canon (⟨allR, w⟩ :: L) = w :=
  View.canon_cons_unit_lit _ _ _ zero2

/-- A load of the whole array, as a vector. -/
theorem ld_all (x : Vec F S1x8 .f32) : shapeCast S1x8 (View.ld (Val := Elt F) (e' := .f32) x allR) shapeCasts_S1x8_S1x8 = x :=
  (shapeCast_self _ _).trans (View.ld_unit_lit _ _ zero2)

/-- A load of the whole array after one store of it, as a vector. -/
theorem readCov_all (a : Memref sig .tc .vmem S1x8 .f32) (w : FVec F S1x8 .f32) :
    shapeCast S1x8 (a.view.readCov (Val := Elt F) [⟨allR, w⟩] allR.toLoadRect) shapeCasts_S1x8_S1x8 = w :=
  (shapeCast_self _ _).trans (View.readCov_unit_lit _ _ _ zero2)

end Cert.Rvq
-- ==== Proof.CaseA.lean ====
/- What the first grid point leaves in its outputs and in the scratch arrays. -/
module

public import proofs.«01_k».proof.Proof.OneStore
public import proofs.«01_k».proof.Proof.Gen.KernelIdeal.Frame

@[expose] public section

set_option maxRecDepth 65536
set_option maxHeartbeats 4000000

noncomputable section

namespace Cert.Rvq

open Cert.KernelIdeal Cert.KernelIdeal.Gen Idealize.ShloMosaic Idealize.ShloMosaic.TcCoe Idealize.SL.Sem

variable {F : FTy → Type} [FloatOps F]

section
variable (c : Dev nD) (i : grid0.Coords) (arg1 : Memref sig .tc .vmem S1024x64 .f32) (harg1 : arg1.IsWhole) (arg2 : Memref sig .tc .vmem S8x1024x64 .f32) (harg2 : arg2.IsWhole) (arg3 : Memref sig .tc .vmem S1024x64 .f32) (harg3 : arg3.IsWhole) (arg4 : Memref sig .tc .vmem S1024x8 .i32) (harg4 : arg4.IsWhole) (arg5 : Memref sig .tc .vmem S1x8 .f32) (harg5 : arg5.IsWhole) (arg6 : Memref sig .tc .vmem S8x1024x64 .bf16) (harg6 : arg6.IsWhole) (arg7 : Memref sig .tc .vmem S8x1024x192 .bf16) (harg7 : arg7.IsWhole) (arg8 : Memref sig .tc .vmem S8x1x1024 .f32) (harg8 : arg8.IsWhole) (hc0 : cond0_0 i)
    (x0 : Vec F S1024x64 .f32) (x1 : Vec F S8x1024x64 .f32)

/-- The codebooks as the point loads them back. -/
def booksA (x1 : Vec F S8x1024x64 .f32) : Books F :=
  booksFrom (fun n => arg6.view.readCov (listS x1) (secS n).toLoadRect) (fun n => arg7.view.readCov (listT x1) (secT n).toLoadRect)
    (fun n => arg8.view.readCov (listC x1) (secC n).toLoadRect)

theorem booksA_eq : booksA arg6 arg7 arg8 x1 = booksIn x1 := by
  unfold booksA booksIn booksOf
  simp only [View.readCov_eq_canon']

theorem piecesA_5 : (kernelRun0_A c i arg1 harg1 arg2 harg2 arg3 harg3 arg4 harg4 arg5 harg5 arg6 harg6 arg7 harg7 arg8 harg8 hc0 x0 x1).2.2.2.1
    = listS (arg2.view.read (Elt F) (harg2.unread x1)) := rfl
theorem piecesA_6 : (kernelRun0_A c i arg1 harg1 arg2 harg2 arg3 harg3 arg4 harg4 arg5 harg5 arg6 harg6 arg7 harg7 arg8 harg8 hc0 x0 x1).2.2.2.2.1
    = listT (arg2.view.read (Elt F) (harg2.unread x1)) := rfl
theorem piecesA_7 : (kernelRun0_A c i arg1 harg1 arg2 harg2 arg3 harg3 arg4 harg4 arg5 harg5 arg6 harg6 arg7 harg7 arg8 harg8 hc0 x0 x1).2.2.2.2.2.1
    = listC (arg2.view.read (Elt F) (harg2.unread x1)) := rfl
theorem piecesA_2 : (kernelRun0_A c i arg1 harg1 arg2 harg2 arg3 harg3 arg4 harg4 arg5 harg5 arg6 harg6 arg7 harg7 arg8 harg8 hc0 x0 x1).1
    = listY (booksA arg6 arg7 arg8 (arg2.view.read (Elt F) (harg2.unread x1))) (View.ld (arg1.view.read (Elt F) (harg1.unread x0)) loR) (View.ld (arg1.view.read (Elt F) (harg1.unread x0)) hiR) := rfl
theorem piecesA_3 : (kernelRun0_A c i arg1 harg1 arg2 harg2 arg3 harg3 arg4 harg4 arg5 harg5 arg6 harg6 arg7 harg7 arg8 harg8 hc0 x0 x1).2.1
    = listI (booksA arg6 arg7 arg8 (arg2.view.read (Elt F) (harg2.unread x1))) (View.ld (arg1.view.read (Elt F) (harg1.unread x0)) loR) (View.ld (arg1.view.read (Elt F) (harg1.unread x0)) hiR) := rfl
theorem piecesA_4 : (kernelRun0_A c i arg1 harg1 arg2 harg2 arg3 harg3 arg4 harg4 arg5 harg5 arg6 harg6 arg7 harg7 arg8 harg8 hc0 x0 x1).2.2.1
    = [⟨allR, addf (shapeCast S1x8 (arg5.view.readCov (Val := Elt F) [⟨allR, k0_pay1⟩] allR.toLoadRect) shapeCasts_S1x8_S1x8)
        (sumB (booksA arg6 arg7 arg8 (arg2.view.read (Elt F) (harg2.unread x1))) (View.ld (arg1.view.read (Elt F) (harg1.unread x0)) loR) (View.ld (arg1.view.read (Elt F) (harg1.unread x0)) hiR))⟩,
       ⟨allR, k0_pay1⟩] := rfl

end

end Cert.Rvq
-- ==== Proof.CaseB.lean ====
/- What a grid point other than the first leaves in its outputs. -/
module

public import proofs.«01_k».proof.Proof.OneStore
public import proofs.«01_k».proof.Proof.Gen.KernelIdeal.Frame

@[expose] public section

set_option maxRecDepth 65536
set_option maxHeartbeats 4000000

noncomputable section

namespace Cert.Rvq

open Cert.KernelIdeal Cert.KernelIdeal.Gen Idealize.ShloMosaic Idealize.ShloMosaic.TcCoe Idealize.SL.Sem

variable {F : FTy → Type} [FloatOps F]

section
variable (c : Dev nD) (i : grid0.Coords) (arg1 : Memref sig .tc .vmem S1024x64 .f32) (harg1 : arg1.IsWhole) (arg2 : Memref sig .tc .vmem S8x1024x64 .f32) (harg2 : arg2.IsWhole) (arg3 : Memref sig .tc .vmem S1024x64 .f32) (harg3 : arg3.IsWhole) (arg4 : Memref sig .tc .vmem S1024x8 .i32) (harg4 : arg4.IsWhole) (arg5 : Memref sig .tc .vmem S1x8 .f32) (harg5 : arg5.IsWhole) (arg6 : Memref sig .tc .vmem S8x1024x64 .bf16) (harg6 : arg6.IsWhole) (arg7 : Memref sig .tc .vmem S8x1024x192 .bf16) (harg7 : arg7.IsWhole) (arg8 : Memref sig .tc .vmem S8x1x1024 .f32) (harg8 : arg8.IsWhole) (hc0 : ¬cond0_0 i)
    (x0 : Vec F S1024x64 .f32) (x1 : Vec F S8x1024x64 .f32) (xo4 : Vec F S1x8 .f32) (xs0 : Vec F S8x1024x64 .bf16) (xs1 : Vec F S8x1024x192 .bf16) (xs2 : Vec F S8x1x1024 .f32)

/-- The codebooks as the point loads them. -/
def booksB : Books F := booksOf (arg6.view.read (Elt F) (harg6.unread xs0)) (arg7.view.read (Elt F) (harg7.unread xs1)) (arg8.view.read (Elt F) (harg8.unread xs2))

theorem booksB_eq : booksB arg6 harg6 arg7 harg7 arg8 harg8 xs0 xs1 xs2 = booksOf xs0 xs1 xs2 := by
  unfold booksB; rw [harg6.read_unread, harg7.read_unread, harg8.read_unread]

theorem piecesB_2 : (kernelRun0_B c i arg1 harg1 arg2 harg2 arg3 harg3 arg4 harg4 arg5 harg5 arg6 harg6 arg7 harg7 arg8 harg8 hc0 x0 x1 xo4 xs0 xs1 xs2).1
    = listY (booksB arg6 harg6 arg7 harg7 arg8 harg8 xs0 xs1 xs2) (View.ld (arg1.view.read (Elt F) (harg1.unread x0)) loR) (View.ld (arg1.view.read (Elt F) (harg1.unread x0)) hiR) := rfl
theorem piecesB_3 : (kernelRun0_B c i arg1 harg1 arg2 harg2 arg3 harg3 arg4 harg4 arg5 harg5 arg6 harg6 arg7 harg7 arg8 harg8 hc0 x0 x1 xo4 xs0 xs1 xs2).2.1
    = listI (booksB arg6 harg6 arg7 harg7 arg8 harg8 xs0 xs1 xs2) (View.ld (arg1.view.read (Elt F) (harg1.unread x0)) loR) (View.ld (arg1.view.read (Elt F) (harg1.unread x0)) hiR) := rfl
theorem piecesB_4 : (kernelRun0_B c i arg1 harg1 arg2 harg2 arg3 harg3 arg4 harg4 arg5 harg5 arg6 harg6 arg7 harg7 arg8 harg8 hc0 x0 x1 xo4 xs0 xs1 xs2).2.2.1
    = [⟨allR, addf (shapeCast S1x8 (View.ld (arg5.view.read (Elt F) (harg5.unread xo4)) allR) shapeCasts_S1x8_S1x8)
        (sumB (booksB arg6 harg6 arg7 harg7 arg8 harg8 xs0 xs1 xs2) (View.ld (arg1.view.read (Elt F) (harg1.unread x0)) loR) (View.ld (arg1.view.read (Elt F) (harg1.unread x0)) hiR))⟩] := rfl

end

end Cert.Rvq
-- ==== Proof.CaseOut.lean ====
/- What a grid point leaves in its outputs and in the scratch arrays. -/
module

public import proofs.«01_k».proof.Proof.CaseA
public import proofs.«01_k».proof.Proof.CaseB

@[expose] public section

set_option maxRecDepth 65536

noncomputable section

namespace Cert.Rvq

open Cert.KernelIdeal Cert.KernelIdeal.Gen Idealize.ShloMosaic Idealize.ShloMosaic.TcCoe Idealize.SL.Sem

variable {F : FTy → Type} [FloatOps F]

section
variable (c : Dev nD) (i : grid0.Coords) (arg1 : Memref sig .tc .vmem S1024x64 .f32) (harg1 : arg1.IsWhole) (arg2 : Memref sig .tc .vmem S8x1024x64 .f32) (harg2 : arg2.IsWhole) (arg3 : Memref sig .tc .vmem S1024x64 .f32) (harg3 : arg3.IsWhole) (arg4 : Memref sig .tc .vmem S1024x8 .i32) (harg4 : arg4.IsWhole) (arg5 : Memref sig .tc .vmem S1x8 .f32) (harg5 : arg5.IsWhole) (arg6 : Memref sig .tc .vmem S8x1024x64 .bf16) (harg6 : arg6.IsWhole) (arg7 : Memref sig .tc .vmem S8x1024x192 .bf16) (harg7 : arg7.IsWhole) (arg8 : Memref sig .tc .vmem S8x1x1024 .f32) (harg8 : arg8.IsWhole) (hc0 : cond0_0 i)
    (x0 : Vec F S1024x64 .f32) (x1 : Vec F S8x1024x64 .f32)

/-- The point leaves the entries times minus two in the first scratch array. -/
theorem soutA_0 : sout0_A_0 c i arg1 harg1 arg2 harg2 arg3 harg3 arg4 harg4 arg5 harg5 arg6 harg6 arg7 harg7 arg8 harg8 hc0 x0 x1 = View.canon (listS x1) := by
  unfold sout0_A_0; rw [View.read_writes_junk_eq_canon, piecesA_5, harg2.read_unread]
/-- The point leaves the entries' three parts in the second scratch array. -/
theorem soutA_1 : sout0_A_1 c i arg1 harg1 arg2 harg2 arg3 harg3 arg4 harg4 arg5 harg5 arg6 harg6 arg7 harg7 arg8 harg8 hc0 x0 x1 = View.canon (listT x1) := by
  unfold sout0_A_1; rw [View.read_writes_junk_eq_canon, piecesA_6, harg2.read_unread]
/-- The point leaves the entries' squared lengths in the third scratch array. -/
theorem soutA_2 : sout0_A_2 c i arg1 harg1 arg2 harg2 arg3 harg3 arg4 harg4 arg5 harg5 arg6 harg6 arg7 harg7 arg8 harg8 hc0 x0 x1 = View.canon (listC x1) := by
  unfold sout0_A_2; rw [View.read_writes_junk_eq_canon, piecesA_7, harg2.read_unread]
/-- The point leaves the quantized values of its block. -/
theorem outA_2 : out0_A_2 c i arg1 harg1 arg2 harg2 arg3 harg3 arg4 harg4 arg5 harg5 arg6 harg6 arg7 harg7 arg8 harg8 hc0 x0 x1 = blockY (booksIn x1) x0 := by
  unfold out0_A_2 blockY
  rw [View.read_writes_junk_eq_canon, piecesA_2, booksA_eq, harg1.read_unread, harg2.read_unread]
/-- The point leaves the indices of its block. -/
theorem outA_3 : out0_A_3 c i arg1 harg1 arg2 harg2 arg3 harg3 arg4 harg4 arg5 harg5 arg6 harg6 arg7 harg7 arg8 harg8 hc0 x0 x1 = blockI (booksIn x1) x0 := by
  unfold out0_A_3 blockI
  rw [View.read_writes_junk_eq_canon, piecesA_3, booksA_eq, harg1.read_unread, harg2.read_unread]
/-- The point adds its block's sums to zero. -/
theorem outA_4 : out0_A_4 c i arg1 harg1 arg2 harg2 arg3 harg3 arg4 harg4 arg5 harg5 arg6 harg6 arg7 harg7 arg8 harg8 hc0 x0 x1
    = addf (broadcast S1x8 (Scalar.ofBits .f32 0x00000000#32)) (blockS (booksIn x1) x0) := by
  unfold out0_A_4 blockS
  rw [View.read_writes_junk_eq_canon, piecesA_4, booksA_eq, harg1.read_unread, harg2.read_unread]
  exact (canon_all _ _).trans (congrArg (fun z => addf z _) (readCov_all arg5 k0_pay1))
end

section
variable (c : Dev nD) (i : grid0.Coords) (arg1 : Memref sig .tc .vmem S1024x64 .f32) (harg1 : arg1.IsWhole) (arg2 : Memref sig .tc .vmem S8x1024x64 .f32) (harg2 : arg2.IsWhole) (arg3 : Memref sig .tc .vmem S1024x64 .f32) (harg3 : arg3.IsWhole) (arg4 : Memref sig .tc .vmem S1024x8 .i32) (harg4 : arg4.IsWhole) (arg5 : Memref sig .tc .vmem S1x8 .f32) (harg5 : arg5.IsWhole) (arg6 : Memref sig .tc .vmem S8x1024x64 .bf16) (harg6 : arg6.IsWhole) (arg7 : Memref sig .tc .vmem S8x1024x192 .bf16) (harg7 : arg7.IsWhole) (arg8 : Memref sig .tc .vmem S8x1x1024 .f32) (harg8 : arg8.IsWhole) (hc0 : ¬cond0_0 i)
    (x0 : Vec F S1024x64 .f32) (x1 : Vec F S8x1024x64 .f32) (xo4 : Vec F S1x8 .f32) (xs0 : Vec F S8x1024x64 .bf16) (xs1 : Vec F S8x1024x192 .bf16) (xs2 : Vec F S8x1x1024 .f32)

/-- The point leaves the quantized values of its block. -/
theorem outB_2 : out0_B_2 c i arg1 harg1 arg2 harg2 arg3 harg3 arg4 harg4 arg5 harg5 arg6 harg6 arg7 harg7 arg8 harg8 hc0 x0 x1 xo4 xs0 xs1 xs2 = blockY (booksOf xs0 xs1 xs2) x0 := by
  unfold out0_B_2 blockY
  rw [View.read_writes_junk_eq_canon, piecesB_2, booksB_eq, harg1.read_unread]
/-- The point leaves the indices of its block. -/
theorem outB_3 : out0_B_3 c i arg1 harg1 arg2 harg2 arg3 harg3 arg4 harg4 arg5 harg5 arg6 harg6 arg7 harg7 arg8 harg8 hc0 x0 x1 xo4 xs0 xs1 xs2 = blockI (booksOf xs0 xs1 xs2) x0 := by
  unfold out0_B_3 blockI
  rw [View.read_writes_junk_eq_canon, piecesB_3, booksB_eq, harg1.read_unread]
/-- The point adds its block's sums to the sums before it. -/
theorem outB_4 : out0_B_4 c i arg1 harg1 arg2 harg2 arg3 harg3 arg4 harg4 arg5 harg5 arg6 harg6 arg7 harg7 arg8 harg8 hc0 x0 x1 xo4 xs0 xs1 xs2 = addf xo4 (blockS (booksOf xs0 xs1 xs2) x0) := by
  unfold out0_B_4 blockS
  rw [View.read_writes_junk_eq_canon, piecesB_4, booksB_eq, harg1.read_unread, harg5.read_unread]
  exact (canon_all _ _).trans (congrArg (fun z => addf z _) (ld_all xo4))
end

end Cert.Rvq
-- ==== Proof.PointVals.lean ====
/- What every grid point leaves in its outputs, from the two argument arrays. -/
module

public import proofs.«01_k».proof.Proof.CaseOut
public import Idealize.ShloMosaic.Lib.Pointwise
public import proofs.«01_k».proof.Proof.Gen.KernelIdeal.Frame

@[expose] public section

set_option maxRecDepth 16384

noncomputable section

namespace Cert.Rvq

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The first argument's block at a point. -/
def yBlk (t : Fin cfg0.N) : Vec F S1024x64 .f32 := iblk m c 0 t
/-- The codebooks, as every point reads them. -/
def cbBlk (t : Fin cfg0.N) : Vec F S8x1024x64 .f32 := iblk m c 1 t

/-- Every point reads all the codebooks. -/
theorem cbBlk_eq (t : Fin cfg0.N) (n : Fin 8) (v : Fin 1024) (d : Fin 64) :
    cbBlk m c t (ix3 n v d) = m ((c.tc : Thread nD τ).loc main_arg1) (ix3 n v d) := by
  unfold cbBlk iblk
  rw [View.read_apply]
  show V m c main_arg1 _ = _
  unfold V
  refine congrArg (m ((c.tc : Thread nD τ).loc main_arg1)) ?_
  funext a
  apply Fin.ext
  match a with
  | ⟨0, _⟩ => show win0_1.index t 0 * 8 + 1 * n.val = n.val; rw [show win0_1.index t 0 = 0 from rfl]; omega
  | ⟨1, _⟩ => show win0_1.index t 1 * 1024 + 1 * v.val = v.val; rw [show win0_1.index t 1 = 0 from rfl]; omega
  | ⟨2, _⟩ => show win0_1.index t 2 * 64 + 1 * d.val = d.val; rw [show win0_1.index t 2 = 0 from rfl]; omega

/-- A point's block index is the point. -/
theorem index_row : ∀ t : Fin cfg0.N, win0_0.index t 0 = t.val := by decide +kernel

/-- A point reads its 1024 rows. -/
theorem yBlk_eq (t : Fin cfg0.N) (a : Fin 1024) (d : Fin 64) (h : t.val * 1024 + a.val < 65536) :
    yBlk m c t (ix2 a d) = m ((c.tc : Thread nD τ).loc main_arg0) (ix2 ⟨t.val * 1024 + a.val, h⟩ d) := by
  unfold yBlk iblk
  rw [View.read_apply]
  show V m c main_arg0 _ = _
  unfold V
  refine congrArg (m ((c.tc : Thread nD τ).loc main_arg0)) ?_
  funext k
  apply Fin.ext
  match k with
  | ⟨0, _⟩ => show win0_0.index t 0 * 1024 + 1 * a.val = t.val * 1024 + a.val; rw [index_row]; omega
  | ⟨1, _⟩ => show win0_0.index t 1 * 64 + 1 * d.val = d.val; rw [show win0_0.index t 1 = 0 from rfl]; omega

theorem cbBlk_const (t t' : Fin cfg0.N) : cbBlk m c t = cbBlk m c t' := by
  funext x
  have e : x = ix3 (x 0) (x 1) (x 2) := by funext a; fin_cases a <;> rfl
  rw [e]
  exact (cbBlk_eq m c t _ _ _).trans (cbBlk_eq m c t' _ _ _).symm

/-- The first point. -/
def p0 : Fin cfg0.N := ⟨0, by rw [show cfg0.N = 64 from N_0]; decide⟩

/-- The codebooks. -/
def cbs : Vec F S8x1024x64 .f32 := cbBlk m c p0

/-- What a point leaves, given the sums before it. -/
abbrev leaves (t : Fin cfg0.N) (s : Vec F S1x8 .f32) : Vec F S1024x64 .f32 × Vec F S1024x8 .i32 × Vec F S1x8 .f32 × Vec F S8x1024x64 .bf16 × Vec F S8x1024x192 .bf16 × Vec F S8x1x1024 .f32 :=
  (blockY (booksIn (cbs m c)) (yBlk m c t), blockI (booksIn (cbs m c)) (yBlk m c t), addf s (blockS (booksIn (cbs m c)) (yBlk m c t)),
    View.canon (listS (cbs m c)), View.canon (listT (cbs m c)), View.canon (listC (cbs m c)))

theorem six {A₁ A₂ A₃ A₄ A₅ A₆ : Type} {a₁ b₁ : A₁} {a₂ b₂ : A₂} {a₃ b₃ : A₃} {a₄ b₄ : A₄} {a₅ b₅ : A₅} {a₆ b₆ : A₆} (h₁ : a₁ = b₁) (h₂ : a₂ = b₂)
    (h₃ : a₃ = b₃) (h₄ : a₄ = b₄) (h₅ : a₅ = b₅) (h₆ : a₆ = b₆) : (a₁, a₂, a₃, a₄, a₅, a₆) = (b₁, b₂, b₃, b₄, b₅, b₆) := by
  rw [h₁, h₂, h₃, h₄, h₅, h₆]

/-- The first point's sums start from zero. -/
theorem leaves_first (t : Fin cfg0.N) (h : t.val % 64 = 0) :
    outsAt0 m c t.val t.isLt = leaves m c t (broadcast S1x8 (Scalar.ofBits .f32 0x00000000#32)) := by
  have e : cbBlk m c t = cbs m c := cbBlk_const m c t p0
  rw [outsAt0_A m c t h]
  exact six ((outA_2 ..).trans (congrArg (fun z => blockY (booksIn z) (yBlk m c t)) e))
    ((outA_3 ..).trans (congrArg (fun z => blockI (booksIn z) (yBlk m c t)) e))
    ((outA_4 ..).trans (congrArg (fun z => addf (broadcast S1x8 (Scalar.ofBits .f32 0x00000000#32)) (blockS (booksIn z) (yBlk m c t))) e))
    ((soutA_0 ..).trans (congrArg (fun z => View.canon (listS z)) e)) ((soutA_1 ..).trans (congrArg (fun z => View.canon (listT z)) e))
    ((soutA_2 ..).trans (congrArg (fun z => View.canon (listC z)) e))

/-- Any other point keeps the scratch arrays the point before left, and adds to its sums. -/
theorem leaves_over (t : Fin cfg0.N) (h : ¬t.val % 64 = 0) (y : Vec F S1024x64 .f32) (i : Vec F S1024x8 .i32) (s : Vec F S1x8 .f32)
    (u : Vec F S8x1024x64 .bf16) (v : Vec F S8x1024x192 .bf16) (w : Vec F S8x1x1024 .f32)
    (hp : outsAt0 m c (t.val - 1) (Nat.lt_of_le_of_lt (Nat.sub_le _ _) t.isLt) = (y, i, s, u, v, w)) :
    outsAt0 m c t.val t.isLt = (blockY (booksOf u v w) (yBlk m c t), blockI (booksOf u v w) (yBlk m c t),
      addf s (blockS (booksOf u v w) (yBlk m c t)), u, v, w) := by
  rw [outsAt0_B m c t h, hp]
  exact six (outB_2 ..) (outB_3 ..) (outB_4 ..) rfl rfl rfl

/-- Any other point's sums start from those the point before left. -/
theorem leaves_next (t : Fin cfg0.N) (h : ¬t.val % 64 = 0) (s : Vec F S1x8 .f32) (p : Fin cfg0.N)
    (hp : outsAt0 m c (t.val - 1) (Nat.lt_of_le_of_lt (Nat.sub_le _ _) t.isLt) = leaves m c p s) :
    outsAt0 m c t.val t.isLt = leaves m c t (addf s (blockS (booksIn (cbs m c)) (yBlk m c p))) := by
  have := leaves_over m c t h _ _ _ _ _ _ hp
  unfold leaves booksIn
  exact this

/-- The sums before a point. -/
def before (t : ℕ) : Vec F S1x8 .f32 :=
  match t with
  | 0 => broadcast S1x8 (Scalar.ofBits .f32 0x00000000#32)
  | n + 1 => if h : n < cfg0.N then addf (before n) (blockS (booksIn (cbs m c)) (yBlk m c ⟨n, h⟩)) else before n

/-- What every point leaves. -/
theorem leaves_all : ∀ (n : ℕ) (h : n < cfg0.N), outsAt0 m c n h = leaves m c ⟨n, h⟩ (before m c n)
  | 0, h => leaves_first m c ⟨0, h⟩ rfl
  | n + 1, h => by
    have hN : cfg0.N = 64 := N_0
    have hn : n < cfg0.N := Nat.lt_of_succ_lt h
    rw [leaves_next m c ⟨n + 1, h⟩ (by dsimp only; omega) (before m c n) ⟨n, hn⟩ (leaves_all n hn)]
    unfold before
    rw [dif_pos hn]
    cases n <;> rfl

end Cert.Rvq
-- ==== Proof.BlockIdeal.lean ====
/- What a grid point makes of its block, over the extended reals: the quantized rows, the indices, and the sums of squares. -/
module

public import proofs.«01_k».proof.Proof.Slabs

@[expose] public section

set_option maxRecDepth 16384

noncomputable section

namespace Cert.Rvq

open Cert.KernelIdeal Cert.KernelIdeal.Gen Idealize.ShloMosaic Idealize.ShloMosaic.TcCoe Idealize.SL.Sem

/-- The block holds the real rows `Y`. -/
def BlockIs (x0 : Vec Ideal S1024x64 .f32) (Y : ℕ → Row) : Prop := ∀ (a : Fin 1024) (d : Fin 64), x0 (ix2 a d) = ((Y a.val d : ℝ) : EReal)

theorem loR_idx (a : Fin 512) (d : Fin 64) : loR.idx (ix2 a d) = ix2 (⟨a.val, by omega⟩ : Fin 1024) d := by
  funext k; apply Fin.ext; unfold loR; rw [Rect.idx_unit_val]
  fin_cases k <;> simp
theorem hiR_idx (a : Fin 512) (d : Fin 64) : hiR.idx (ix2 a d) = ix2 (⟨512 + a.val, by omega⟩ : Fin 1024) d := by
  funext k; apply Fin.ext; unfold hiR; rw [Rect.idx_unit_val]
  fin_cases k <;> simp
theorem loI_idx (a : Fin 512) (d : Fin 8) : loI.idx (ix2 a d) = ix2 (⟨a.val, by omega⟩ : Fin 1024) d := by
  funext k; apply Fin.ext; unfold loI; rw [Rect.idx_unit_val]
  fin_cases k <;> simp
theorem hiI_idx (a : Fin 512) (d : Fin 8) : hiI.idx (ix2 a d) = ix2 (⟨512 + a.val, by omega⟩ : Fin 1024) d := by
  funext k; apply Fin.ext; unfold hiI; rw [Rect.idx_unit_val]
  fin_cases k <;> simp

/-- An index of the upper half is not in the lower. -/
theorem lo_not_mem (a : Fin 512) (d : Fin 64) : (ix2 (⟨a.val, by omega⟩ : Fin 1024) d : S1024x64.Idx) ∉ hiR.set := by
  intro h
  have := (Rect.mem_set_unit.mp h 0).1
  have e : (512 : ℕ) ≤ a.val := this
  omega
theorem loI_not_mem (a : Fin 512) (d : Fin 8) : (ix2 (⟨a.val, by omega⟩ : Fin 1024) d : S1024x8.Idx) ∉ hiI.set := by
  intro h
  have := (Rect.mem_set_unit.mp h 0).1
  have e : (512 : ℕ) ≤ a.val := this
  omega

/-- Two pieces read at an index the last one holds, -/
theorem canon_two {S : Shape} {e : EltTy} (r r' : Rect S) (u : r.shape.Idx → Elt Ideal e) (v : r'.shape.Idx → Elt Ideal e) (x : r.shape.Idx)
    {y : S.Idx} (h : r.idx x = y) : View.canon (Val := Elt Ideal) (e := e) [⟨r, u⟩, ⟨r', v⟩] y = u x := by
  subst h; exact View.canon_cons_emb r u _ x
/-- and at an index only the first holds. -/
theorem canon_two' {S : Shape} {e : EltTy} (r r' : Rect S) (u : r.shape.Idx → Elt Ideal e) (v : r'.shape.Idx → Elt Ideal e) (x : r'.shape.Idx)
    {y : S.Idx} (h : r'.idx x = y) (hn : y ∉ r.set) : View.canon (Val := Elt Ideal) (e := e) [⟨r, u⟩, ⟨r', v⟩] y = v x := by
  rw [View.canon_cons_of_not_mem _ _ hn]; subst h; exact View.canon_cons_emb r' v _ x

section
variable (u : hiR.shape.Idx → Elt Ideal .f32) (v : loR.shape.Idx → Elt Ideal .f32) {y : S1024x64.Idx}
theorem canon_up (x : hiR.shape.Idx) (h : hiR.idx x = y) : View.canon (Val := Elt Ideal) (e := .f32) [⟨hiR, u⟩, ⟨loR, v⟩] y = u x :=
  canon_two hiR loR u v x h
theorem canon_down (x : loR.shape.Idx) (h : loR.idx x = y) (hn : y ∉ hiR.set) :
    View.canon (Val := Elt Ideal) (e := .f32) [⟨hiR, u⟩, ⟨loR, v⟩] y = v x :=
  canon_two' hiR loR u v x h hn
end

section
variable (u v : FVec Ideal S512x64 .f32) {y : S1024x64.Idx}
theorem canon_up' (x : hiR.shape.Idx) (h : hiR.idx x = y) : View.canon (Val := Elt Ideal) (e := .f32) [⟨hiR, u⟩, ⟨loR, v⟩] y = u x :=
  canon_up u v x h
theorem canon_down' (x : loR.shape.Idx) (h : loR.idx x = y) (hn : y ∉ hiR.set) :
    View.canon (Val := Elt Ideal) (e := .f32) [⟨hiR, u⟩, ⟨loR, v⟩] y = v x :=
  canon_down u v x h hn
theorem canon_hi (a : Fin 512) (d : Fin 64) :
    View.canon (Val := Elt Ideal) (e := .f32) [⟨hiR, u⟩, ⟨loR, v⟩] (ix2 (⟨512 + a.val, by omega⟩ : Fin 1024) d) = u (ix2 a d) :=
  canon_up' u v (ix2 a d) (hiR_idx a d)
theorem canon_lo (a : Fin 512) (d : Fin 64) :
    View.canon (Val := Elt Ideal) (e := .f32) [⟨hiR, u⟩, ⟨loR, v⟩] (ix2 (⟨a.val, by omega⟩ : Fin 1024) d) = v (ix2 a d) :=
  canon_down' u v (ix2 a d) (loR_idx a d) (lo_not_mem a d)
end

section
variable (u : hiI.shape.Idx → Elt Ideal .i32) (v : loI.shape.Idx → Elt Ideal .i32) {y : S1024x8.Idx}
theorem canonI_up (x : hiI.shape.Idx) (h : hiI.idx x = y) : View.canon (Val := Elt Ideal) (e := .i32) [⟨hiI, u⟩, ⟨loI, v⟩] y = u x :=
  canon_two hiI loI u v x h
theorem canonI_down (x : loI.shape.Idx) (h : loI.idx x = y) (hn : y ∉ hiI.set) :
    View.canon (Val := Elt Ideal) (e := .i32) [⟨hiI, u⟩, ⟨loI, v⟩] y = v x :=
  canon_two' hiI loI u v x h hn
end

section
variable (u v : IVec S512x8 32) {y : S1024x8.Idx}
theorem canonI_up' (x : hiI.shape.Idx) (h : hiI.idx x = y) : View.canon (Val := Elt Ideal) (e := .i32) [⟨hiI, u⟩, ⟨loI, v⟩] y = u x :=
  canonI_up u v x h
theorem canonI_down' (x : loI.shape.Idx) (h : loI.idx x = y) (hn : y ∉ hiI.set) :
    View.canon (Val := Elt Ideal) (e := .i32) [⟨hiI, u⟩, ⟨loI, v⟩] y = v x :=
  canonI_down u v x h hn
theorem canonI_hi (a : Fin 512) (d : Fin 8) :
    View.canon (Val := Elt Ideal) (e := .i32) [⟨hiI, u⟩, ⟨loI, v⟩] (ix2 (⟨512 + a.val, by omega⟩ : Fin 1024) d) = u (ix2 a d) :=
  canonI_up' u v (ix2 a d) (hiI_idx a d)
theorem canonI_lo (a : Fin 512) (d : Fin 8) :
    View.canon (Val := Elt Ideal) (e := .i32) [⟨hiI, u⟩, ⟨loI, v⟩] (ix2 (⟨a.val, by omega⟩ : Fin 1024) d) = v (ix2 a d) :=
  canonI_down' u v (ix2 a d) (loI_idx a d) (loI_not_mem a d)
end

/-- Every row of a block is in its lower or its upper half. -/
theorem halves (a : Fin 1024) : (∃ b : Fin 512, a = ⟨b.val, by omega⟩) ∨ ∃ b : Fin 512, a = ⟨512 + b.val, by omega⟩ := by
  by_cases h : a.val < 512
  · exact Or.inl ⟨⟨a.val, h⟩, rfl⟩
  · exact Or.inr ⟨⟨a.val - 512, by omega⟩, Fin.ext (show a.val = 512 + (a.val - 512) by omega)⟩

variable {x0 : Vec Ideal S1024x64 .f32} {Y : ℕ → Row} {B : Books Ideal} {C : ℕ → Book}

theorem ldLo (h : BlockIs x0 Y) : RowsAre (View.ld (Val := Elt Ideal) (e' := .f32) x0 loR) fun a => Y a.val := fun a d =>
  (congrArg x0 (loR_idx a d)).trans (h _ d)
theorem ldHi (h : BlockIs x0 Y) : RowsAre (View.ld (Val := Elt Ideal) (e' := .f32) x0 hiR) fun a => Y (512 + a.val) := fun a d =>
  (congrArg x0 (hiR_idx a d)).trans (h _ d)

theorem lessRes {r : FVec Ideal S512x64 .f32} {R : Fin 512 → Row} (hr : RowsAre r R) (hB : Holds B C) (a : Fin 512) (d : Fin 64) :
    subf r (resT B r 8) (ix2 a d) = ((R a d - res C (R a) 8 d : ℝ) : EReal) := by
  rw [EReal.coe_sub, ← hr a d, ← resT_eq hr hB 8 a d]; rfl

/-- The quantized values of a block. -/
theorem blockY_eq (h : BlockIs x0 Y) (hB : Holds B C) (a : Fin 1024) (d : Fin 64) :
    blockY B x0 (ix2 a d) = ((Y a.val d - res C (Y a.val) 8 d : ℝ) : EReal) := by
  unfold blockY listY
  rcases halves a with ⟨b, rfl⟩ | ⟨b, rfl⟩
  · exact (canon_lo _ _ b d).trans (lessRes (ldLo h) hB b d)
  · exact (canon_hi _ _ b d).trans (lessRes (ldHi h) hB b d)

/-- The indices of a block. -/
theorem blockI_eq (h : BlockIs x0 Y) (hB : Holds B C) (a : Fin 1024) (k : Fin 8) :
    blockI B x0 (ix2 a k) = BitVec.ofNat 32 (code C (Y a.val) k.val).val := by
  unfold blockI listI
  rcases halves a with ⟨b, rfl⟩ | ⟨b, rfl⟩
  · exact (canonI_lo _ _ b k).trans ((idx8_eq _ b k).trans (idxT_eq (ldLo h) hB k.val b))
  · exact (canonI_hi _ _ b k).trans ((idx8_eq _ b k).trans (idxT_eq (ldHi h) hB k.val b))

section
variable {a b : ℕ → FVec Ideal S512x64 .f32} {f g : ℕ → Fin 512 → Row} (ha : ∀ n, RowsAre (a n) (f n)) (hb : ∀ n, RowsAre (b n) (g n))
include ha hb

theorem sumsV_eq (k : Fin 8) : ∀ n, n < 8 → sumsV a b n (ix2 0 k)
    = if k.val < n then ((∑ i, sq (f (k.val + 1) i) + ∑ i, sq (g (k.val + 1) i) : ℝ) : EReal) else 0
  | 0, _ => by
    show Scalar.ofBits .f32 0x00000000#32 = _
    simp [Scalar.ofBits, FloatOps.ofBits]
  | n + 1, hn => by
    show sumsV a b n (ix2 0 k) + laneV n (colSum (a (n + 1))) (ix2 0 k) + laneV n (colSum (b (n + 1))) (ix2 0 k) = _
    rw [sumsV_eq k n (by omega), laneV_eq n (by omega), laneV_eq n (by omega), colSum_eq (ha _), colSum_eq (hb _)]
    rcases lt_trichotomy k.val n with h | h | h
    · rw [if_pos h, if_neg h.ne, if_neg h.ne, if_pos (by omega), add_zero, add_zero]
    · rw [if_neg (by omega), if_pos h, if_pos h, if_pos (by omega), zero_add, ← EReal.coe_add, h]
    · rw [if_neg (by omega), if_neg h.ne', if_neg h.ne', if_neg (by omega), add_zero, add_zero]

/-- The sums of the two halves at a lane. -/
theorem sums8_eq (k : Fin 8) : sums8 a b (ix2 0 k) = ((∑ i, sq (f (k.val + 1) i) + ∑ i, sq (g (k.val + 1) i) : ℝ) : EReal) := by
  show sumsV a b 7 (ix2 0 k) + laneV 7 (Scalar.ofBits .f32 0x00000000#32 + allSum (a 8) + allSum (b 8)) (ix2 0 k) = _
  rw [sumsV_eq ha hb k 7 (by omega), laneV_eq 7 (by omega), allSum_eq (ha _), allSum_eq (hb _),
    show (Scalar.ofBits .f32 0x00000000#32 : Ideal .f32) = 0 by simp [Scalar.ofBits, FloatOps.ofBits], zero_add, ← EReal.coe_add]
  have := k.isLt
  by_cases h : k.val = 7
  · rw [if_neg (by omega), if_pos h, zero_add, h]
  · rw [if_pos (by omega), if_neg h, add_zero]
end

/-- The sums of a block at a lane. -/
theorem blockS_eq (h : BlockIs x0 Y) (hB : Holds B C) (k : Fin 8) :
    blockS B x0 (ix2 0 k) = ((∑ a ∈ Finset.range 1024, sq (res C (Y a) (k.val + 1)) : ℝ) : EReal) := by
  refine (sums8_eq (fun n => resT_eq (ldLo h) hB n) (fun n => resT_eq (ldHi h) hB n) k).trans ?_
  congr 1
  rw [show (1024 : ℕ) = 512 + 512 from rfl, Finset.sum_range_add, Finset.sum_range, Finset.sum_range]

end Cert.Rvq
-- ==== Proof.Answers.lean ====
/- The four results as functions of the real rows and codebooks. -/
module

public import proofs.«01_k».proof.Proof.Spec
public import Idealize.ShloMosaic.Lib.Pointwise

@[expose] public section

noncomputable section

namespace Cert.Rvq

open Idealize.ShloMosaic

variable (Y : ℕ → Row) (C : ℕ → Book)

/-- The quantized rows: what the eight layers have taken off. -/
def yhatAns : (⟨2, ![65536, 64]⟩ : Shape).Idx → Ideal .f32 := fun x =>
  ((Y (x 0).val (x 1) - res C (Y (x 0).val) 8 (x 1) : ℝ) : EReal)

/-- The index of every row in every layer. -/
def idxAns : (⟨2, ![65536, 8]⟩ : Shape).Idx → BitVec 32 := fun x => BitVec.ofNat 32 (code C (Y (x 0).val) (x 1).val).val

/-- The loss of a layer: the mean square of the residuals after it. -/
def lossOf (k : ℕ) : ℝ := total C Y k / 4194304

@[inherit_doc lossOf]
def lossAns : (⟨1, ![8]⟩ : Shape).Idx → Ideal .f32 := fun x => ((lossOf Y C (x 0).val : ℝ) : EReal)

/-- The mean of the eight losses. -/
def meanAns : (⟨0, ![]⟩ : Shape).Idx → Ideal .f32 := fun _ => (((∑ k : Fin 8, lossOf Y C k.val) / 8 : ℝ) : EReal)

end Cert.Rvq
-- ==== Proof.KernelArr.lean ====
/- The arrays the grid leaves, from finite arguments. -/
module

public import proofs.«01_k».proof.Proof.PointVals
public import proofs.«01_k».proof.Proof.BlockIdeal
public import proofs.«01_k».proof.Proof.Answers
public import Idealize.ShloMosaic.Lib.Pipeline.ValueKit.Geometry

@[expose] public section

set_option maxRecDepth 16384

noncomputable section

namespace Cert.Rvq

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The two arguments hold the real rows `Y` and codebooks `C`. -/
structure ArgsAre (Y : ℕ → Row) (C : ℕ → Book) : Prop where
  rows : ∀ (b : Fin 65536) (d : Fin 64), m ((c.tc : Thread nD τ).loc main_arg0) (ix2 b d) = ((Y b.val d : ℝ) : EReal)
  books : ∀ (n : ℕ) (v : Fin 1024) (d : Fin 64), m ((c.tc : Thread nD τ).loc main_arg1) (ix3 (layer n) v d) = ((C n v d : ℝ) : EReal)

variable {m c} {Y : ℕ → Row} {C : ℕ → Book} (h : ArgsAre m c Y C)
include h

theorem books_hold : Holds (booksIn (cbs m c)) C := booksIn_holds fun n v d => (cbBlk_eq m c p0 _ v d).trans (h.books n v d)

theorem block_rows (t : Fin cfg0.N) : BlockIs (yBlk m c t) fun a => Y (t.val * 1024 + a) := fun a d => by
  have ht : t.val < 64 := lt_of_lt_of_eq t.isLt (show cfg0.N = 64 from N_0)
  exact (yBlk_eq m c t a d (by omega)).trans (h.rows _ d)

/-- The sums before a point are those of the rows before its block. -/
theorem before_eq (k : Fin 8) : ∀ n, n ≤ 64 →
    before m c n (ix2 0 k) = ((∑ b ∈ Finset.range (1024 * n), sq (res C (Y b) (k.val + 1)) : ℝ) : EReal)
  | 0, _ => by
    show Scalar.ofBits .f32 0x00000000#32 = _
    simp [Scalar.ofBits, FloatOps.ofBits]
  | n + 1, hn => by
    have hN : n < cfg0.N := lt_of_lt_of_eq (by omega : n < 64) N_0.symm
    have e : before m c (n + 1) = addf (before m c n) (blockS (booksIn (cbs m c)) (yBlk m c ⟨n, hN⟩)) := by
      rw [before, dif_pos hN]
    rw [e]
    show before m c n (ix2 0 k) + blockS (booksIn (cbs m c)) (yBlk m c ⟨n, hN⟩) (ix2 0 k) = _
    rw [before_eq k n (by omega), blockS_eq (block_rows h ⟨n, hN⟩) (books_hold h) k, ← EReal.coe_add, show 1024 * (n + 1) = 1024 * n + 1024 from rfl, Finset.sum_range_add]
    simp only [Nat.mul_comm 1024 n]

/-- The last grid point. -/
def pLast : Fin cfg0.N := ⟨63, lt_of_lt_of_eq (by decide : 63 < 64) N_0.symm⟩

omit h in
theorem ix2_eta {a b : ℕ} (y : (⟨2, ![a, b]⟩ : Shape).Idx) : y = ix2 (y 0) (y 1) := by
  funext i; match i with | 0 => rfl | 1 => rfl

omit h in
theorem index_yhat : ∀ t : Fin cfg0.N, win0_2.index t 0 = t.val ∧ win0_2.index t 1 = 0 := by decide +kernel
omit h in
theorem index_idx : ∀ t : Fin cfg0.N, win0_3.index t 0 = t.val ∧ win0_3.index t 1 = 0 := by decide +kernel

omit h in
theorem yhatAns_at (x : (⟨2, ![65536, 64]⟩ : Shape).Idx) (b : ℕ) (d : Fin 64) (h0 : (x 0).val = b) (h1 : (x 1).val = d.val) :
    yhatAns Y C x = ((Y b d - res C (Y b) 8 d : ℝ) : EReal) := by
  subst h0
  obtain rfl : x 1 = d := Fin.ext h1
  rfl

omit h in
theorem idxAns_at (x : (⟨2, ![65536, 8]⟩ : Shape).Idx) (b k : ℕ) (h0 : (x 0).val = b) (h1 : (x 1).val = k) :
    idxAns Y C x = BitVec.ofNat 32 (code C (Y b) k).val := by
  subst h0 h1
  rfl

/-- The first result array. -/
theorem arr_yhat : (dats m 0 c).arrAt 2 cfg0.N = yhatAns Y C := by
  refine (dats m 0 c).arrAt_eq_of_covers 2 _ (by decide +kernel) fun t hf y => ?_
  blk_simp
  rw [after0_2, leaves_all]
  refine (congrArg (blockY _ _) (ix2_eta (a := 1024) (b := 64) y)).trans ((blockY_eq (block_rows h t) (books_hold h) _ _).trans ?_)
  refine (yhatAns_at _ _ _ ?_ ?_).symm
  · blk_simp [(index_yhat t).1]
  · blk_simp [(index_yhat t).2]

/-- The second result array. -/
theorem arr_idx : (dats m 0 c).arrAt 3 cfg0.N = idxAns Y C := by
  refine (dats m 0 c).arrAt_eq_of_covers 3 _ (by decide +kernel) fun t hf y => ?_
  blk_simp
  rw [after0_3, leaves_all]
  refine (congrArg (blockI _ _) (ix2_eta (a := 1024) (b := 8) y)).trans ((blockI_eq (block_rows h t) (books_hold h) _ _).trans ?_)
  refine (idxAns_at _ _ _ ?_ ?_).symm
  · blk_simp [(index_idx t).1]
  · blk_simp [(index_idx t).2]

/-- The sums array. -/
theorem arr_sums : (dats m 0 c).arrAt 4 cfg0.N = fun x => ((total C Y (x 1).val : ℝ) : EReal) := by
  refine (dats m 0 c).arrAt_eq_of_after_last 4 pLast (by decide +kernel) _ fun j => ?_
  blk_simp
  rw [after0_4, leaves_all]
  have e : before m c (63 + 1) = addf (before m c 63) (blockS (booksIn (cbs m c)) (yBlk m c pLast)) :=
    dif_pos pLast.isLt
  have e0 : j = ix2 0 (j 1) := by
    refine (ix2_eta (a := 1) (b := 8) j).trans (congrArg (fun z => ix2 z (j 1)) (Subsingleton.elim (α := Fin 1) _ _))
  refine (congrFun e j).symm.trans ((congrArg (before m c 64) e0).trans (before_eq h (j 1) 64 le_rfl))

end Cert.Rvq
-- ==== Proof.Losses.lean ====
/- The arithmetic of the losses and of their mean over the extended reals. -/
module

public import proofs.«01_k».proof.Proof.Consts
public import proofs.«01_k».proof.Proof.Answers
public import Idealize.ShloMosaic.Lib.IdealHost

@[expose] public section

noncomputable section

namespace Cert.Rvq

open Idealize.ShloMosaic

/-- One times a sum over the number of summands is the mean. -/
theorem loss_arith (x : ℝ) :
    Ideal.ofBits .f32 0x3F800000#32 * Ideal.div ((x : ℝ) : EReal) (Ideal.ofBits .f32 0x4A800000#32) = ((x / 4194304 : ℝ) : EReal) := by
  rw [ofBits_count, Ideal.div_coe (by norm_num), Ideal.ofBits_one_f32, one_mul, ← EReal.coe_mul, mul_one_div]

/-- Zero plus eight numbers, over eight. -/
theorem mean_arith (l : Fin 8 → ℝ) :
    Ideal.div (Ideal.ofBits .f32 0x00000000#32 + ∑ k, ((l k : ℝ) : EReal)) (Ideal.ofBits .f32 0x41000000#32) = (((∑ k, l k) / 8 : ℝ) : EReal) := by
  rw [← coe_sum, ofBits_eight, Ideal.ofBits_zero_f32, zero_add, Ideal.div_coe (by norm_num), ← EReal.coe_mul, mul_one_div]

end Cert.Rvq
-- ==== Proof.KernelOut.lean ====
/- The kernel's four results, from finite arguments. -/
module

public import proofs.«01_k».proof.Proof.KernelArr
public import proofs.«01_k».proof.Proof.Losses

@[expose] public section

set_option maxRecDepth 16384

noncomputable section

namespace Cert.Rvq

open Cert.KernelIdeal Cert.KernelIdeal.Gen Idealize.ShloMosaic Idealize.ShloMosaic.TcCoe Idealize.SL.Sem
open Idealize.ShloMosaic.Pipeline (Dat)

section Tail
variable {F : FTy → Type} [FloatOps F]

/-- The losses the lines after the grid compute from the sums. -/
def tailLosses (s : FVec F S1x8 .f32) : FVec F S8 .f32 :=
  mulf (broadcastInDim S8 ![] bcast_S_S8 (constant S_ .f32 0x3F800000#32))
    (Host.divf (shapeCast S8 s shapeCasts_S1x8_S8) (broadcastInDim S8 ![] bcast_S_S8 (constant S_ .f32 0x4A800000#32)))

/-- The mean loss. -/
def tailMean (l : FVec F S8 .f32) : FVec F S_ .f32 :=
  Host.divf (Host.reduceAdd l (constant S_ .f32 0x00000000#32) reducesTo_S8_S_d0 h_S_) (constant S_ .f32 0x41000000#32)

theorem tail_losses (W : Valuation τ sig (Elt F)) :
    StableHlo.after hostOps1 W (Proc.devRef .tc main_v5) = tailLosses (W (Proc.devRef .tc main_v0_2)) := by
  after_region_results
  rfl

theorem tail_mean (W : Valuation τ sig (Elt F)) :
    StableHlo.after hostOps1 W (Proc.devRef .tc main_v7) = tailMean (tailLosses (W (Proc.devRef .tc main_v0_2))) := by
  after_region_results
  rfl

end Tail

variable (m : (ℓ : Loc nD τ sig) → Buf (Elt Ideal) ℓ) (c : Dev nD)

theorem tailLosses_eq (Y : ℕ → Row) (C : ℕ → Book) :
    tailLosses (F := Ideal) (fun x => ((total C Y (x 1).val : ℝ) : EReal)) = lossAns Y C := by
  funext x
  refine Eq.trans ?_ (loss_arith (total C Y (x 0).val))
  obtain ⟨k, rfl⟩ : ∃ k : Fin 8, x = ix1 k := ⟨x 0, by funext i; match i with | 0 => rfl⟩
  pointwise [tailLosses]

theorem tailMean_eq (Y : ℕ → Row) (C : ℕ → Book) : tailMean (F := Ideal) (lossAns Y C) = meanAns Y C := by
  funext x
  refine Eq.trans ?_ (mean_arith fun k => lossOf Y C k.val)
  obtain rfl : x = ix0 := by funext i; exact i.elim0
  pointwise [tailMean]
  rfl

theorem run_results (ρ) (Y : Dev nD → ℕ → Row) (C : Dev nD → ℕ → Book) (h : ∀ c, ArgsAre m c (Y c) (C c)) :
    θ_run defs (onTc (τ := τ) (main (F := Ideal))) ⟨m, fun _ => 0, ρ⟩ (fun r => ∀ c : Dev nD,
      r.2.mem ((c.tc : Thread nD τ).loc main_v0_0) = yhatAns (Y c) (C c)
      ∧ r.2.mem ((c.tc : Thread nD τ).loc main_v0_1) = idxAns (Y c) (C c)
      ∧ r.2.mem ((c.tc : Thread nD τ).loc main_v7) = meanAns (Y c) (C c)
      ∧ r.2.mem ((c.tc : Thread nD τ).loc main_v5) = lossAns (Y c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r hr c => ?_) (θ_run_and (unchanged m ρ) (run_main m ρ))
  obtain ⟨hu, hp⟩ := hr
  have e4 : StableHlo.after hostOps1 (Pipeline.withArrays spec0 c (V0 m c) fun w => (dats m 0 c).arrAt w cfg0.N) (Proc.devRef .tc main_v5)
      = lossAns (Y c) (C c) :=
    (tail_losses _).trans ((congrArg tailLosses ((Pipeline.withArrays_arr spec0 launch0.win.arr_inj c _ _ 4).trans (arr_sums (h c)))).trans
      (tailLosses_eq _ _))
  have e5 : StableHlo.after hostOps1 (Pipeline.withArrays spec0 c (V0 m c) fun w => (dats m 0 c).arrAt w cfg0.N) (Proc.devRef .tc main_v7)
      = meanAns (Y c) (C c) :=
    (tail_mean _).trans ((congrArg tailMean ((congrArg tailLosses ((Pipeline.withArrays_arr spec0 launch0.win.arr_inj c _ _ 4).trans (arr_sums (h c)))).trans
      (tailLosses_eq _ _))).trans (tailMean_eq _ _))
  refine ⟨(hp.out_eq c 2).trans (arr_yhat (h c)), (hp.out_eq c 3).trans (arr_idx (h c)),
    (hp.rest_eq c main_v7 (by decide)).trans ?_, (hp.rest_eq c main_v5 (by decide)).trans ?_, (hu c).1, (hu c).2⟩
  · exact e5
  · exact e4

end Cert.Rvq
-- ==== Proof.RefRun.lean ====
/- The reference's @main as a list of host operations, layer by layer, and its run: every execution
   terminates and leaves, in every buffer, what those operations leave from the contents at launch. -/
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option maxRecDepth 16384

noncomputable section

namespace Cert.Rvq.Ref

open Cert.ReferenceIdeal Cert.ReferenceIdeal.Gen Idealize.ShloMosaic Idealize.ShloMosaic.TcCoe Idealize.SL.Sem
open Idealize.ShloMosaic.StableHlo

variable {F : FTy → Type} [FloatOps F]

/-- The operations of one call of the reference's argmin. -/
def argminOps (d : TRef sig ⟨S65536x1024, .f32⟩) (φ : fn_argmin.Bufs) : List (HloOp τ sig (Elt F)) :=
  [ TRef.nullary φ.v0 (iotaInDim S65536x1024 32 1),
    TRef.nullary φ.cst (constant S_ .f32 0x7F800000#32),
    TRef.nullary φ.c (constantI S_ 32 0#32),
    TRef.quaternary d φ.v0 φ.cst φ.c φ.v1_0 (fun x y u v j => (Host.argReduce reducer_argmin_f32_i32 x y u v reducesTo_S65536x1024_S65536_d1 h_S_ j).1),
    TRef.quaternary d φ.v0 φ.cst φ.c φ.v1_1 (fun x y u v j => (Host.argReduce reducer_argmin_f32_i32 x y u v reducesTo_S65536x1024_S65536_d1 h_S_ j).2) ]

/-- The operations of one call of the reference's take along axis 0. -/
def takeOps (c : TRef sig ⟨S1024x64, .f32⟩) (i : TRef sig ⟨S65536, .i32⟩) (φ : fn_take.Bufs) : List (HloOp τ sig (Elt F)) :=
  [ TRef.nullary φ.c (constantI S_ 32 0#32),
    TRef.unary φ.c φ.v0 (broadcastInDim S65536 ![] bcast_S_S65536),
    TRef.binary i φ.v0 φ.v1 (cmpi .slt),
    TRef.nullary φ.c_0 (constantI S_ 32 1024#32),
    TRef.unary φ.c_0 φ.v2 (broadcastInDim S65536 ![] bcast_S_S65536),
    TRef.binary i φ.v2 φ.v3 addi,
    TRef.ternary φ.v1 φ.v3 i φ.call0.v0 select,
    TRef.unary φ.call0.v0 φ.v5 (broadcastInDim S65536x1 ![0] bcast_S65536_S65536x1_0),
    TRef.nullary φ.c_1 (constantI S1 32 1023#32),
    TRef.nullary φ.c_2 (constantI S_ 32 0#32),
    TRef.unary φ.c_2 φ.v6 (broadcastInDim S65536x1 ![] bcast_S_S65536x1),
    TRef.binary φ.v5 φ.v6 φ.v7 (cmpi .sge),
    TRef.unary φ.c_1 φ.v8 (broadcastInDim S1x1 ![1] bcast_S1_S1x1_1),
    TRef.unary φ.v8 φ.v9 (broadcastInDim S65536x1 ![0, 1] bcast_S1x1_S65536x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S65536x1_S65536_d1 h_S_),
    TRef.binary c φ.v5 φ.v13 (fun x i => Host.gather gather_S1024x64_S65536x1_S65536x64_1_0_n_n_0_1_164 x i),
    TRef.unary φ.v12 φ.v14 (broadcastInDim S65536x64 ![0] bcast_S65536_S65536x64_0),
    TRef.nullary φ.cst (constant S_ .f32 0x7FC00000#32),
    TRef.unary φ.cst φ.v15 (broadcastInDim S65536x64 ![] bcast_S_S65536x64),
    TRef.ternary φ.v14 φ.v13 φ.v15 φ.v16 select ]

/-- The operations of one quantization step up to the distances. -/
def distOps (x : TRef sig ⟨S65536x64, .f32⟩) (c : TRef sig ⟨S1024x64, .f32⟩) (φ : fn_vq_step_0.Bufs) : List (HloOp τ sig (Elt F)) :=
  [ TRef.binary x x φ.v0 mulf,
    TRef.nullary φ.cst (constant S_ .f32 0x00000000#32),
    TRef.binary φ.v0 φ.cst φ.v1 (fun x v => Host.reduceAdd x v reducesTo_S65536x64_S65536_d1 h_S_),
    TRef.unary φ.v1 φ.v2 (broadcastInDim S65536x1 ![0] bcast_S65536_S65536x1_0),
    TRef.binary c c φ.v3 mulf,
    TRef.nullary φ.cst_0 (constant S_ .f32 0x00000000#32),
    TRef.binary φ.v3 φ.cst_0 φ.v4 (fun x v => Host.reduceAdd x v reducesTo_S1024x64_S1024_d1 h_S_),
    TRef.unary c φ.v5 (transpose S64x1024 [1, 0] · transposes_S1024x64_S64x1024_1_0),
    TRef.binary x φ.v5 φ.v6 (fun l r => Host.dotGeneral dot_S65536x64_S64x1024_S65536x1024_1_0_0_1_n_n none l r),
    TRef.nullary φ.cst_1 (constant S_ .f32 0x40000000#32),
    TRef.unary φ.cst_1 φ.v7 (broadcastInDim S65536x1024 ![] bcast_S_S65536x1024),
    TRef.binary φ.v7 φ.v6 φ.v8 mulf,
    TRef.unary φ.v2 φ.v9 (broadcastInDim S65536x1024 ![0, 1] bcast_S65536x1_S65536x1024_0_1),
    TRef.binary φ.v9 φ.v8 φ.v10 subf,
    TRef.unary φ.v4 φ.v11 (broadcastInDim S1x1024 ![1] bcast_S1024_S1x1024_1),
    TRef.unary φ.v11 φ.v12 (broadcastInDim S65536x1024 ![0, 1] bcast_S1x1024_S65536x1024_0_1),
    TRef.binary φ.v10 φ.v12 φ.v13 addf ]

/-- The operations of one quantization step after the chosen rows are taken: the loss and the
    straight-through value. -/
def lossOps (x : TRef sig ⟨S65536x64, .f32⟩) (φ : fn_vq_step_0.Bufs) : List (HloOp τ sig (Elt F)) :=
  [ TRef.binary φ.call1.v16 x φ.v16 subf,
    TRef.binary φ.v16 φ.v16 φ.v17 mulf,
    TRef.nullary φ.cst_2 (constant S_ .f32 0x00000000#32),
    TRef.binary φ.v17 φ.cst_2 φ.v18 (fun x v => Host.reduceAdd x v reducesTo_S65536x64_S_d0_1 h_S_),
    TRef.nullary φ.cst_3 (constant S_ .f32 0x4A800000#32),
    TRef.binary φ.v18 φ.cst_3 φ.v19 Host.divf,
    TRef.nullary φ.cst_4 (constant S_ .f32 0x3F800000#32),
    TRef.binary φ.cst_4 φ.v19 φ.v20 mulf,
    TRef.binary φ.call1.v16 x φ.v21 subf,
    TRef.binary x φ.v21 φ.v22 addf ]

/-- Where the residual lies before each layer, and after the last. -/
def resR : Fin 9 → TRef sig ⟨S65536x64, .f32⟩ := ![.of main_arg0, .of main_v4, .of main_v9, .of main_v14, .of main_v19, .of main_v24, .of main_v29, .of main_v34, .of main_v39]
/-- Where the running sum of the quantized values lies. -/
def yhatR : Fin 9 → TRef sig ⟨S65536x64, .f32⟩ := ![.of main_v0, .of main_v5, .of main_v10, .of main_v15, .of main_v20, .of main_v25, .of main_v30, .of main_v35, .of main_v40]
/-- Where each layer's slice of the codebooks lies. -/
def sliceR : Fin 8 → TRef sig ⟨S1x1024x64, .f32⟩ := ![.of main_v1, .of main_v6, .of main_v11, .of main_v16, .of main_v21, .of main_v26, .of main_v31, .of main_v36]
/-- Where each layer's codebook lies. -/
def bookR : Fin 8 → TRef sig ⟨S1024x64, .f32⟩ := ![.of main_v2, .of main_v7, .of main_v12, .of main_v17, .of main_v22, .of main_v27, .of main_v32, .of main_v37]
/-- The first call's buffers. -/
def bufs0 : fn_vq_step_0.Bufs where
  v0 := main_call0.v0
  cst := main_call0.cst
  v1 := main_call0.v1
  v2 := main_call0.v2
  v3 := main_call0.v3
  cst_0 := main_call0.cst_0
  v4 := main_call0.v4
  v5 := main_call0.v5
  v6 := main_call0.v6
  cst_1 := main_call0.cst_1
  v7 := main_call0.v7
  v8 := main_call0.v8
  v9 := main_call0.v9
  v10 := main_call0.v10
  v11 := main_call0.v11
  v12 := main_call0.v12
  v13 := main_call0.v13
  call0 := main_call0.call0
  call1 := main_call0.call1
  v16 := main_call0.v16
  v17 := main_call0.v17
  cst_2 := main_call0.cst_2
  v18 := main_call0.v18
  cst_3 := main_call0.cst_3
  v19 := main_call0.v19
  cst_4 := main_call0.cst_4
  v20 := main_call0.v20
  v21 := main_call0.v21
  v22 := main_call0.v22
/-- Each layer's buffers. -/
def bufs : Fin 8 → fn_vq_step_0.Bufs :=
  ![bufs0, main_call1, main_call2, main_call3, main_call4, main_call5, main_call6, main_call7]
/-- The slice a layer cuts out of the codebooks. -/
def cut : Fin 8 → (⟨S8x1024x64, .f32⟩ : BufTy).Contents (Elt F) → (⟨S1x1024x64, .f32⟩ : BufTy).Contents (Elt F) :=
  ![(extractStridedSlice S1x1024x64 ![0, 0, 0] · slices_S8x1024x64_S1x1024x64_0_0_0),
    (extractStridedSlice S1x1024x64 ![1, 0, 0] · slices_S8x1024x64_S1x1024x64_1_0_0),
    (extractStridedSlice S1x1024x64 ![2, 0, 0] · slices_S8x1024x64_S1x1024x64_2_0_0),
    (extractStridedSlice S1x1024x64 ![3, 0, 0] · slices_S8x1024x64_S1x1024x64_3_0_0),
    (extractStridedSlice S1x1024x64 ![4, 0, 0] · slices_S8x1024x64_S1x1024x64_4_0_0),
    (extractStridedSlice S1x1024x64 ![5, 0, 0] · slices_S8x1024x64_S1x1024x64_5_0_0),
    (extractStridedSlice S1x1024x64 ![6, 0, 0] · slices_S8x1024x64_S1x1024x64_6_0_0),
    (extractStridedSlice S1x1024x64 ![7, 0, 0] · slices_S8x1024x64_S1x1024x64_7_0_0)]

/-- One layer's operations. -/
def layerOps (k : Fin 8) : List (HloOp τ sig (Elt F)) :=
  [ TRef.unary (.of main_arg1) (sliceR k) (cut k),
    TRef.reshape (sliceR k) (bookR k) rfl shapeCasts_S1x1024x64_S1024x64 ] ++
  (distOps (resR k.castSucc) (bookR k) (bufs k) ++ (argminOps (bufs k).v13 (bufs k).call0 ++
    (takeOps (bookR k) (bufs k).call0.v1_1 (bufs k).call1 ++ (lossOps (resR k.castSucc) (bufs k) ++
  [ TRef.binary (resR k.castSucc) (bufs k).v22 (resR k.succ) subf,
    TRef.binary (yhatR k.castSucc) (bufs k).v22 (yhatR k.succ) addf ]))))

/-- The operations before the first layer. -/
def headOps : List (HloOp τ sig (Elt F)) :=
  [ nullary main_cst (constant S_ .f32 0x00000000#32),
    unary main_cst main_v0 (broadcastInDim S65536x64 ![] bcast_S_S65536x64 : (⟨S_, .f32⟩ : BufTy).Contents (Elt F) → (⟨S65536x64, .f32⟩ : BufTy).Contents (Elt F)) ]

/-- The layers' operations in order. -/
def bodyOps : List (HloOp τ sig (Elt F)) :=
  layerOps 0 ++ (layerOps 1 ++ (layerOps 2 ++ (layerOps 3 ++ (layerOps 4 ++ (layerOps 5 ++ (layerOps 6 ++ layerOps 7))))))

/-- The columns of the index array, side by side. -/
def joinI (u : Fin 8 → (⟨S65536x1, .i32⟩ : BufTy).Contents (Elt F)) : (⟨S65536x8, .i32⟩ : BufTy).Contents (Elt F) :=
  concatenate S65536x8 1 [⟨S65536x1, u 0⟩, ⟨S65536x1, u 1⟩, ⟨S65536x1, u 2⟩, ⟨S65536x1, u 3⟩, ⟨S65536x1, u 4⟩, ⟨S65536x1, u 5⟩, ⟨S65536x1, u 6⟩, ⟨S65536x1, u 7⟩] concatenates_S65536x1_S65536x1_S65536x1_S65536x1_S65536x1_S65536x1_S65536x1_S65536x1_S65536x8_d1

/-- The losses, end to end. -/
def joinL (u : Fin 8 → (⟨S1, .f32⟩ : BufTy).Contents (Elt F)) : (⟨S8, .f32⟩ : BufTy).Contents (Elt F) :=
  concatenate S8 0 [⟨S1, u 0⟩, ⟨S1, u 1⟩, ⟨S1, u 2⟩, ⟨S1, u 3⟩, ⟨S1, u 4⟩, ⟨S1, u 5⟩, ⟨S1, u 6⟩, ⟨S1, u 7⟩] concatenates_S1_S1_S1_S1_S1_S1_S1_S1_S8_d0

/-- Where the columns of the index array lie. -/
def colR : Fin 8 → TRef sig ⟨S65536x1, .i32⟩ := ![.of main_v41, .of main_v42, .of main_v43, .of main_v44, .of main_v45, .of main_v46, .of main_v47, .of main_v48]
/-- Where the losses lie as one-element arrays. -/
def oneR : Fin 8 → TRef sig ⟨S1, .f32⟩ := ![.of main_v50, .of main_v51, .of main_v52, .of main_v53, .of main_v54, .of main_v55, .of main_v56, .of main_v57]

/-- The operations that assemble the index array. -/
def idxOps : List (HloOp τ sig (Elt F)) :=
  List.ofFn (fun k => TRef.unary (bufs k).call0.v1_1 (colR k) (broadcastInDim S65536x1 ![0] bcast_S65536_S65536x1_0)) ++
  [ TRef.nary colR (.of main_v49) (fun u => joinI u) ]

/-- The operations that assemble the losses. -/
def lossesOps : List (HloOp τ sig (Elt F)) :=
  List.ofFn (fun k => TRef.unary (bufs k).v20 (oneR k) (broadcastInDim S1 ![] bcast_S_S1)) ++
  [ TRef.nary oneR (.of main_v58) (fun u => joinL u) ]

/-- The operations of the mean of the losses. -/
def meanOps : List (HloOp τ sig (Elt F)) :=
  [ nullary main_cst_0 (constant S_ .f32 0x00000000#32),
    binary main_v58 main_cst_0 main_v59 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_1 (constant S_ .f32 0x41000000#32),
    binary main_v59 main_cst_1 main_v60 (Host.divf : (⟨S_, .f32⟩ : BufTy).Contents (Elt F) → (⟨S_, .f32⟩ : BufTy).Contents (Elt F) → (⟨S_, .f32⟩ : BufTy).Contents (Elt F)) ]

/-- Everything before the mean. -/
def ops0 : List (HloOp τ sig (Elt F)) := headOps ++ (bodyOps ++ (idxOps ++ lossesOps))
/-- All of @main. -/
def ops : List (HloOp τ sig (Elt F)) := ops0 ++ meanOps

set_option maxHeartbeats 4000000 in
theorem main_part0_eq (c : Dev nD) : main_part0 (F := F) c = seq ops0 := rfl
theorem main_part1_eq (c : Dev nD) : main_part1 (F := F) c = seq meanOps := rfl
/-- The printed @main is the run of the list. -/
theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A list of operations is fit to run: it names TensorCore buffers only and makes none fresh. -/
def Fit (l : List (HloOp τ sig (Elt F))) : Prop :=
  ∀ op ∈ l, op.bufs ⊆ tcRefs τ sig ∧ op.fresh = ∅

theorem Fit.append {l₁ l₂ : List (HloOp τ sig (Elt F))} (h₁ : Fit l₁) (h₂ : Fit l₂) : Fit (l₁ ++ l₂) := fun op h =>
  (List.mem_append.mp h).elim (h₁ op) (h₂ op)
theorem Fit.nil : Fit ([] : List (HloOp τ sig (Elt F))) := fun _ h => absurd h List.not_mem_nil
theorem Fit.cons {op : HloOp τ sig (Elt F)} {l : List (HloOp τ sig (Elt F))} (h₁ : op.bufs ⊆ tcRefs τ sig) (h₂ : op.fresh = ∅)
    (h : Fit l) : Fit (op :: l) := fun o ho => (List.mem_cons.mp ho).elim (fun e => e ▸ ⟨h₁, h₂⟩) (h o)
theorem Fit.ofFn {n : Nat} {f : Fin n → HloOp τ sig (Elt F)} (h : ∀ k, (f k).bufs ⊆ tcRefs τ sig ∧ (f k).fresh = ∅) :
    Fit (List.ofFn f) := fun _ ho => by
  obtain ⟨k, rfl⟩ := (List.mem_ofFn' _ _).mp ho
  exact h k

theorem argminOps_fit (d φ) : Fit (argminOps (F := F) d φ) := by
  unfold argminOps
  repeat refine Fit.cons (by first | with_reducible exact nullary_bufs_sub .. | with_reducible exact quaternary_bufs_sub ..) rfl ?_
  exact Fit.nil
theorem takeOps_fit (c i φ) : Fit (takeOps (F := F) c i φ) := by
  unfold takeOps
  repeat refine Fit.cons (by first | with_reducible exact nullary_bufs_sub .. | with_reducible exact unary_bufs_sub .. | with_reducible exact binary_bufs_sub .. | with_reducible exact ternary_bufs_sub ..) rfl ?_
  exact Fit.nil
theorem distOps_fit (x c φ) : Fit (distOps (F := F) x c φ) := by
  unfold distOps
  repeat refine Fit.cons (by first | with_reducible exact nullary_bufs_sub .. | with_reducible exact unary_bufs_sub .. | with_reducible exact binary_bufs_sub ..) rfl ?_
  exact Fit.nil
theorem lossOps_fit (x φ) : Fit (lossOps (F := F) x φ) := by
  unfold lossOps
  repeat refine Fit.cons (by first | with_reducible exact nullary_bufs_sub .. | with_reducible exact binary_bufs_sub ..) rfl ?_
  exact Fit.nil
theorem layerOps_fit (k : Fin 8) : Fit (layerOps (F := F) k) := by
  unfold layerOps
  refine Fit.append (Fit.cons (unary_bufs_sub ..) rfl (Fit.cons (reshape_bufs_sub ..) rfl Fit.nil)) ?_
  refine (distOps_fit _ _ _).append ((argminOps_fit _ _).append ((takeOps_fit _ _ _).append ((lossOps_fit _ _).append ?_)))
  exact Fit.cons (binary_bufs_sub ..) rfl (Fit.cons (binary_bufs_sub ..) rfl Fit.nil)
theorem ops_fit : Fit (ops (F := F)) := by
  refine Fit.append (Fit.append ?_ (Fit.append ?_ (Fit.append ?_ ?_))) ?_
  · exact Fit.cons (nullary_bufs_sub ..) rfl (Fit.cons (unary_bufs_sub ..) rfl Fit.nil)
  · exact (layerOps_fit 0).append ((layerOps_fit 1).append ((layerOps_fit 2).append ((layerOps_fit 3).append
      ((layerOps_fit 4).append ((layerOps_fit 5).append ((layerOps_fit 6).append (layerOps_fit 7)))))))
  · exact Fit.append (Fit.ofFn fun k => ⟨unary_bufs_sub .., rfl⟩) (Fit.cons (nary_bufs_sub ..) rfl Fit.nil)
  · exact Fit.append (Fit.ofFn fun k => ⟨unary_bufs_sub .., rfl⟩) (Fit.cons (nary_bufs_sub ..) rfl Fit.nil)
  · unfold meanOps
    repeat refine Fit.cons (by first | with_reducible exact nullary_bufs_sub .. | with_reducible exact binary_bufs_sub ..) rfl ?_
    exact Fit.nil

/-- The reference runs to the end and leaves in each buffer what its operations leave there. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = after ops (launchContents m c) (Proc.devRef .tc b) :=
  (θ_run defs _ _).mono (fun _ h c b => h c b)
    (run_seq scopedRefs_eq scopedSems_eq defs main (fun _ => ops) main_eq
      (fun _ => List.forall_iff_forall_mem.mpr fun o ho => (ops_fit o ho).1) m ρ
      fun _ o ho => (ops_fit o ho).2)

end Cert.Rvq.Ref

end
-- ==== Proof.RefRead.lean ====
/- What the reference's operations leave in each buffer that matters, layer by layer. -/
module

public import proofs.«01_k».proof.Proof.RefRun

@[expose] public section

set_option maxRecDepth 16384

noncomputable section

namespace Cert.Rvq.Ref

open Cert.ReferenceIdeal Cert.ReferenceIdeal.Gen Idealize.ShloMosaic Idealize.ShloMosaic.TcCoe Idealize.SL.Sem
open Idealize.ShloMosaic.StableHlo

variable {F : FTy → Type} [FloatOps F]

/-- The squared distances of every row to every entry of a codebook. -/
def distV (x : FVec F S65536x64 .f32) (c : FVec F S1024x64 .f32) : FVec F S65536x1024 .f32 :=
  addf (subf
      (broadcastInDim S65536x1024 ![0, 1] bcast_S65536x1_S65536x1024_0_1 (broadcastInDim S65536x1 ![0] bcast_S65536_S65536x1_0
        (Host.reduceAdd (mulf x x) (constant S_ .f32 0x00000000#32) reducesTo_S65536x64_S65536_d1 h_S_)))
      (mulf (broadcastInDim S65536x1024 ![] bcast_S_S65536x1024 (constant S_ .f32 0x40000000#32))
        (Host.dotGeneral dot_S65536x64_S64x1024_S65536x1024_1_0_0_1_n_n none x
          (transpose S64x1024 [1, 0] c transposes_S1024x64_S64x1024_1_0))))
    (broadcastInDim S65536x1024 ![0, 1] bcast_S1x1024_S65536x1024_0_1 (broadcastInDim S1x1024 ![1] bcast_S1024_S1x1024_1
      (Host.reduceAdd (mulf c c) (constant S_ .f32 0x00000000#32) reducesTo_S1024x64_S1024_d1 h_S_)))

/-- The index of every row's least distance. -/
def idxV (d : FVec F S65536x1024 .f32) : IVec S65536 32 := fun j =>
  (Host.argReduce reducer_argmin_f32_i32 d (iotaInDim S65536x1024 32 1) (constant S_ .f32 0x7F800000#32)
    (constantI S_ 32 0#32) reducesTo_S65536x1024_S65536_d1 h_S_ j).2

/-- The start index of each row's gather: a negative index counted from the end. -/
def wrapV (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 1024#32))) i)

/-- The rows of a codebook that a column of indices names. -/
def takeV (c : FVec F S1024x64 .f32) (i : IVec S65536 32) : FVec F S65536x64 .f32 :=
  select (broadcastInDim S65536x64 ![0] bcast_S65536_S65536x64_0
      (Host.reduce IntOp.andi
        (andi (cmpi .sge (wrapV i) (broadcastInDim S65536x1 ![] bcast_S_S65536x1 (constantI S_ 32 0#32)))
          (cmpi .sle (wrapV i) (broadcastInDim S65536x1 ![0, 1] bcast_S1x1_S65536x1_0_1
            (broadcastInDim S1x1 ![1] bcast_S1_S1x1_1 (constantI S1 32 1023#32)))))
        (constantI S_ 1 1#1) reducesTo_S65536x1_S65536_d1 h_S_))
    (Host.gather gather_S1024x64_S65536x1_S65536x64_1_0_n_n_0_1_164 c (wrapV i))
    (broadcastInDim S65536x64 ![] bcast_S_S65536x64 (constant S_ .f32 0x7FC00000#32))

/-- The loss of a layer from the taken rows and the residual. -/
def lossV (q x : FVec F S65536x64 .f32) : FVec F S_ .f32 :=
  mulf (constant S_ .f32 0x3F800000#32)
    (Host.divf (Host.reduceAdd (mulf (subf q x) (subf q x)) (constant S_ .f32 0x00000000#32) reducesTo_S65536x64_S_d0_1 h_S_)
      (constant S_ .f32 0x4A800000#32))

/-- The straight-through value. -/
def passV (q x : FVec F S65536x64 .f32) : FVec F S65536x64 .f32 := addf x (subf q x)

/-- The codebook of a layer. -/
def bookV (k : Fin 8) (cb : FVec F S8x1024x64 .f32) : FVec F S1024x64 .f32 :=
  shapeCast S1024x64 (cut k cb) shapeCasts_S1x1024x64_S1024x64

/-- What a buffer of known type holds. -/
def rd (V : Valuation τ sig (Elt F)) {T : BufTy} (x : TRef sig T) : T.Contents (Elt F) :=
  x.ofBuf (V (Proc.devRef .tc x.ref))

theorem rd_keep {l : List (HloOp τ sig (Elt F))} (W : List (Ref sig .tc))
    (hW : l.map HloOp.writes = W.map fun w => {Proc.devRef (τ := τ) .tc w}) (V : Valuation τ sig (Elt F)) {T : BufTy} (x : TRef sig T)
    (hx : x.ref ∉ W) : rd (after l V) x = rd V x := by
  unfold rd
  rw [after_unwritten W hW hx]

theorem ofBuf_toBuf {T : BufTy} (x : TRef sig T) (v : T.Contents (Elt F)) : x.ofBuf (x.toBuf v) = v := by
  unfold TRef.ofBuf TRef.toBuf
  rw [cast_cast, cast_eq]

/-- The distances, after the operations that compute them. -/
theorem dist_read (k : Fin 8) (V : Valuation τ sig (Elt F)) :
    rd (after (distOps (resR k.castSucc) (bookR k) (bufs k)) V) (bufs k).v13 = distV (rd V (resR k.castSucc)) (rd V (bookR k)) := by
  fin_cases k <;> (unfold rd distV; after_reads_simp; simp only [ofBuf_toBuf])

/-- The indices, after the argmin. -/
theorem argmin_read (k : Fin 8) (V : Valuation τ sig (Elt F)) :
    rd (after (argminOps (bufs k).v13 (bufs k).call0) V) (bufs k).call0.v1_1 = idxV (rd V (bufs k).v13) := by
  fin_cases k <;> (unfold rd idxV; after_reads_simp; simp only [ofBuf_toBuf])

/-- The taken rows, after the take. -/
theorem take_read (k : Fin 8) (V : Valuation τ sig (Elt F)) :
    rd (after (takeOps (bookR k) (bufs k).call0.v1_1 (bufs k).call1) V) (bufs k).call1.v16
      = takeV (rd V (bookR k)) (rd V (bufs k).call0.v1_1) := by
  fin_cases k <;> (unfold rd takeV wrapV; after_reads_simp; simp only [ofBuf_toBuf])

theorem loss_read (k : Fin 8) (V : Valuation τ sig (Elt F)) :
    rd (after (lossOps (resR k.castSucc) (bufs k)) V) (bufs k).v20 = lossV (rd V (bufs k).call1.v16) (rd V (resR k.castSucc)) := by
  fin_cases k <;> (unfold rd; after_reads_simp; rfl)

theorem pass_read (k : Fin 8) (V : Valuation τ sig (Elt F)) :
    rd (after (lossOps (resR k.castSucc) (bufs k)) V) (bufs k).v22 = passV (rd V (bufs k).call1.v16) (rd V (resR k.castSucc)) := by
  fin_cases k <;> (unfold rd; after_reads_simp; rfl)

/-- The layer's codebook, after it is cut out. -/
theorem book_read (k : Fin 8) (V : Valuation τ sig (Elt F)) :
    rd (after [ TRef.unary (.of main_arg1) (sliceR k) (cut k),
      TRef.reshape (sliceR k) (bookR k) rfl shapeCasts_S1x1024x64_S1024x64 ] V) (bookR k) = bookV k (rd V (.of main_arg1)) := by
  fin_cases k <;> (unfold rd; after_reads_simp; rfl)

/-- One layer's arrays, from the residual before it and all the codebooks. -/
def idxL (k : Fin 8) (x : FVec F S65536x64 .f32) (cb : FVec F S8x1024x64 .f32) : IVec S65536 32 := idxV (distV x (bookV k cb))
@[inherit_doc idxL]
def rowsL (k : Fin 8) (x : FVec F S65536x64 .f32) (cb : FVec F S8x1024x64 .f32) : FVec F S65536x64 .f32 :=
  takeV (bookV k cb) (idxL k x cb)

/-- The references a layer's operations write, in order. -/
def bookW (k : Fin 8) : List (Ref sig .tc) := [(sliceR k).ref, (bookR k).ref]
@[inherit_doc bookW]
def distW (φ : fn_vq_step_0.Bufs) : List (Ref sig .tc) :=
  [φ.v0.ref, φ.cst.ref, φ.v1.ref, φ.v2.ref, φ.v3.ref, φ.cst_0.ref, φ.v4.ref, φ.v5.ref, φ.v6.ref, φ.cst_1.ref, φ.v7.ref, φ.v8.ref,
    φ.v9.ref, φ.v10.ref, φ.v11.ref, φ.v12.ref, φ.v13.ref]
@[inherit_doc bookW]
def argminW (φ : fn_argmin.Bufs) : List (Ref sig .tc) := [φ.v0.ref, φ.cst.ref, φ.c.ref, φ.v1_0.ref, φ.v1_1.ref]
@[inherit_doc bookW]
def takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
    φ.v8.ref, φ.v9.ref, φ.v10.ref, φ.v11.ref, φ.c_3.ref, φ.v12.ref, φ.v13.ref, φ.v14.ref, φ.cst.ref, φ.v15.ref, φ.v16.ref]
@[inherit_doc bookW]
def lossW (φ : fn_vq_step_0.Bufs) : List (Ref sig .tc) :=
  [φ.v16.ref, φ.v17.ref, φ.cst_2.ref, φ.v18.ref, φ.cst_3.ref, φ.v19.ref, φ.cst_4.ref, φ.v20.ref, φ.v21.ref, φ.v22.ref]
@[inherit_doc bookW]
def nextW (k : Fin 8) : List (Ref sig .tc) := [(resR k.succ).ref, (yhatR k.succ).ref]
@[inherit_doc bookW]
def layerW (k : Fin 8) : List (Ref sig .tc) :=
  bookW k ++ (distW (bufs k) ++ (argminW (bufs k).call0 ++ (takeW (bufs k).call1 ++ (lossW (bufs k) ++ nextW k))))

theorem layer_writes (k : Fin 8) :
    (layerOps (F := F) k).map HloOp.writes = (layerW k).map fun w => {Proc.devRef (τ := τ) .tc w} := rfl

/-- The layer's operations one group after another. -/
theorem layer_after (k : Fin 8) (V : Valuation τ sig (Elt F)) :
    after (layerOps k) V
      = after [ TRef.binary (resR k.castSucc) (bufs k).v22 (resR k.succ) subf,
          TRef.binary (yhatR k.castSucc) (bufs k).v22 (yhatR k.succ) addf ]
        (after (lossOps (resR k.castSucc) (bufs k)) (after (takeOps (bookR k) (bufs k).call0.v1_1 (bufs k).call1)
          (after (argminOps (bufs k).v13 (bufs k).call0) (after (distOps (resR k.castSucc) (bookR k) (bufs k))
            (after [ TRef.unary (.of main_arg1) (sliceR k) (cut k),
              TRef.reshape (sliceR k) (bookR k) rfl shapeCasts_S1x1024x64_S1024x64 ] V))))) := rfl

theorem next_read (k : Fin 8) (V : Valuation τ sig (Elt F)) :
    rd (after [ TRef.binary (resR k.castSucc) (bufs k).v22 (resR k.succ) subf,
        TRef.binary (yhatR k.castSucc) (bufs k).v22 (yhatR k.succ) addf ] V) (resR k.succ)
      = subf (rd V (resR k.castSucc)) (rd V (bufs k).v22) := by
  fin_cases k <;> (unfold rd; after_reads_simp; rfl)
theorem next_read_yhat (k : Fin 8) (V : Valuation τ sig (Elt F)) :
    rd (after [ TRef.binary (resR k.castSucc) (bufs k).v22 (resR k.succ) subf,
        TRef.binary (yhatR k.castSucc) (bufs k).v22 (yhatR k.succ) addf ] V) (yhatR k.succ)
      = addf (rd V (yhatR k.castSucc)) (rd V (bufs k).v22) := by
  fin_cases k <;> (unfold rd; after_reads_simp; rfl)

/-- A buffer a layer does not write keeps its contents. -/
theorem layer_keep (k : Fin 8) (V : Valuation τ sig (Elt F)) {T : BufTy} (x : TRef sig T) (hx : x.ref ∉ layerW k) :
    rd (after (layerOps k) V) x = rd V x := rd_keep (layerW k) (layer_writes k) V x hx

section Parts
variable (k : Fin 8) (V : Valuation τ sig (Elt F)) {T : BufTy} (x : TRef sig T)

theorem book_keep (hx : x.ref ∉ bookW k) : rd (after [ TRef.unary (.of main_arg1) (sliceR k) (cut k),
      TRef.reshape (sliceR k) (bookR k) rfl shapeCasts_S1x1024x64_S1024x64 ] V) x = rd V x := rd_keep (bookW k) rfl V x hx
theorem dist_keep (hx : x.ref ∉ distW (bufs k)) : rd (after (distOps (resR k.castSucc) (bookR k) (bufs k)) V) x = rd V x :=
  rd_keep (distW (bufs k)) rfl V x hx
theorem argmin_keep (hx : x.ref ∉ argminW (bufs k).call0) : rd (after (argminOps (bufs k).v13 (bufs k).call0) V) x = rd V x :=
  rd_keep (argminW (bufs k).call0) rfl V x hx
theorem take_keep (hx : x.ref ∉ takeW (bufs k).call1) :
    rd (after (takeOps (bookR k) (bufs k).call0.v1_1 (bufs k).call1) V) x = rd V x := rd_keep (takeW (bufs k).call1) rfl V x hx
theorem loss_keep (hx : x.ref ∉ lossW (bufs k)) : rd (after (lossOps (resR k.castSucc) (bufs k)) V) x = rd V x :=
  rd_keep (lossW (bufs k)) rfl V x hx
theorem next_keep (hx : x.ref ∉ nextW k) : rd (after [ TRef.binary (resR k.castSucc) (bufs k).v22 (resR k.succ) subf,
        TRef.binary (yhatR k.castSucc) (bufs k).v22 (yhatR k.succ) addf ] V) x = rd V x := rd_keep (nextW k) rfl V x hx

end Parts

/-- The groups do not overwrite each other's results. -/
theorem apart : ∀ k : Fin 8,
    (resR k.castSucc).ref ∉ bookW k ++ (distW (bufs k) ++ (argminW (bufs k).call0 ++ (takeW (bufs k).call1 ++ lossW (bufs k))))
    ∧ (yhatR k.castSucc).ref ∉ bookW k ++ (distW (bufs k) ++ (argminW (bufs k).call0 ++ (takeW (bufs k).call1 ++ lossW (bufs k))))
    ∧ (bookR k).ref ∉ distW (bufs k) ++ argminW (bufs k).call0
    ∧ (bufs k).call0.v1_1.ref ∉ takeW (bufs k).call1 ++ (lossW (bufs k) ++ nextW k)
    ∧ (bufs k).v20.ref ∉ nextW k := by decide

/-- A layer's results: the indices, the loss, the next residual and the next running sum. -/
theorem layer_read (k : Fin 8) (V : Valuation τ sig (Elt F)) :
    rd (after (layerOps k) V) (bufs k).call0.v1_1 = idxL k (rd V (resR k.castSucc)) (rd V (.of main_arg1))
    ∧ rd (after (layerOps k) V) (bufs k).v20
        = lossV (rowsL k (rd V (resR k.castSucc)) (rd V (.of main_arg1))) (rd V (resR k.castSucc))
    ∧ rd (after (layerOps k) V) (resR k.succ)
        = subf (rd V (resR k.castSucc)) (passV (rowsL k (rd V (resR k.castSucc)) (rd V (.of main_arg1))) (rd V (resR k.castSucc)))
    ∧ rd (after (layerOps k) V) (yhatR k.succ)
        = addf (rd V (yhatR k.castSucc)) (passV (rowsL k (rd V (resR k.castSucc)) (rd V (.of main_arg1))) (rd V (resR k.castSucc))) := by
  obtain ⟨hx, hy, hb, hi, hl⟩ := apart k
  simp only [List.mem_append, not_or] at hx hy hb hi
  rw [layer_after]
  refine ⟨?_, ?_, ?_, ?_⟩
  · rw [next_keep k _ _ hi.2.2, loss_keep k _ _ hi.2.1, take_keep k _ _ hi.1, argmin_read, dist_read, book_keep k _ _ hx.1, book_read]
    rfl
  · rw [next_keep k _ _ hl, loss_read, take_read, take_keep k _ _ hx.2.2.2.1, argmin_keep k _ _ hx.2.2.1, dist_keep k _ _ hx.2.1,
      argmin_keep k _ _ hb.2, dist_keep k _ _ hb.1, argmin_read, dist_read, book_keep k _ _ hx.1, book_read]
    rfl
  · rw [next_read, pass_read, take_read, loss_keep k _ _ hx.2.2.2.2, take_keep k _ _ hx.2.2.2.1, argmin_keep k _ _ hx.2.2.1,
      dist_keep k _ _ hx.2.1, argmin_keep k _ _ hb.2, dist_keep k _ _ hb.1, argmin_read, dist_read, book_keep k _ _ hx.1, book_read]
    rfl
  · rw [next_read_yhat, pass_read, take_read, loss_keep k _ _ hy.2.2.2.2, take_keep k _ _ hy.2.2.2.1, argmin_keep k _ _ hy.2.2.1,
      dist_keep k _ _ hy.2.1, book_keep k _ _ hy.1, take_keep k _ _ hx.2.2.2.1, argmin_keep k _ _ hx.2.2.1,
      dist_keep k _ _ hx.2.1, argmin_keep k _ _ hb.2, dist_keep k _ _ hb.1, argmin_read, dist_read, book_keep k _ _ hx.1, book_read]
    rfl

/-- The residual after `n` layers. -/
def resV (y : FVec F S65536x64 .f32) (cb : FVec F S8x1024x64 .f32) : ℕ → FVec F S65536x64 .f32
  | 0 => y
  | n + 1 => if h : n < 8 then subf (resV y cb n) (passV (rowsL ⟨n, h⟩ (resV y cb n) cb) (resV y cb n)) else resV y cb n

/-- The running sum of the quantized values after `n` layers. -/
def yhatV (y : FVec F S65536x64 .f32) (cb : FVec F S8x1024x64 .f32) : ℕ → FVec F S65536x64 .f32
  | 0 => broadcastInDim S65536x64 ![] bcast_S_S65536x64 (constant S_ .f32 0x00000000#32)
  | n + 1 => if h : n < 8 then addf (yhatV y cb n) (passV (rowsL ⟨n, h⟩ (resV y cb n) cb) (resV y cb n)) else yhatV y cb n

/-- The buffers after `n` layers. -/
def stV (V : Valuation τ sig (Elt F)) : ℕ → Valuation τ sig (Elt F)
  | 0 => V
  | n + 1 => if h : n < 8 then after (layerOps ⟨n, h⟩) (stV V n) else stV V n

theorem body_after (V : Valuation τ sig (Elt F)) : after bodyOps V = stV V 8 := by
  unfold bodyOps
  simp only [after_append]
  rfl

/-- No layer writes an argument, an earlier layer's index column or loss. -/
theorem apart_layers : ∀ k : Fin 8, main_arg0 ∉ layerW k ∧ main_arg1 ∉ layerW k ∧
    ∀ j : Fin 8, j < k → (bufs j).call0.v1_1.ref ∉ layerW k ∧ (bufs j).v20.ref ∉ layerW k := by decide

/-- What the buffers hold after `n` layers, from contents whose running sum is zero. -/
theorem st_read (V : Valuation τ sig (Elt F)) (h0 : rd V (yhatR 0) = yhatV (rd V (.of main_arg0)) (rd V (.of main_arg1)) 0) :
    ∀ n (hn : n < 9),
    rd (stV V n) (.of main_arg0 : TRef sig ⟨S65536x64, .f32⟩) = rd V (.of main_arg0) ∧ rd (stV V n) (.of main_arg1 : TRef sig ⟨S8x1024x64, .f32⟩) = rd V (.of main_arg1)
    ∧ rd (stV V n) (resR ⟨n, hn⟩) = resV (rd V (.of main_arg0)) (rd V (.of main_arg1)) n
    ∧ rd (stV V n) (yhatR ⟨n, hn⟩) = yhatV (rd V (.of main_arg0)) (rd V (.of main_arg1)) n
    ∧ ∀ j : Fin 8, j.val < n →
      rd (stV V n) (bufs j).call0.v1_1 = idxL j (resV (rd V (.of main_arg0)) (rd V (.of main_arg1)) j.val) (rd V (.of main_arg1))
      ∧ rd (stV V n) (bufs j).v20 = lossV (rowsL j (resV (rd V (.of main_arg0)) (rd V (.of main_arg1)) j.val) (rd V (.of main_arg1)))
          (resV (rd V (.of main_arg0)) (rd V (.of main_arg1)) j.val) := by
  intro n
  induction n with
  | zero => exact fun _ => ⟨rfl, rfl, rfl, h0, fun j hj => absurd hj (Nat.not_lt_zero _)⟩
  | succ n ih =>
    intro hn
    have h8 : n < 8 := Nat.lt_of_succ_lt_succ hn
    obtain ⟨e0, e1, er, ey, ej⟩ := ih (Nat.lt_of_succ_lt hn)
    obtain ⟨a0, a1, aj⟩ := apart_layers ⟨n, h8⟩
    obtain ⟨r1, r2, r3, r4⟩ := layer_read ⟨n, h8⟩ (stV V n)
    have hs : stV V (n + 1) = after (layerOps ⟨n, h8⟩) (stV V n) := dif_pos h8
    have er' : rd (stV V n) (resR (Fin.castSucc ⟨n, h8⟩)) = _ := er
    have ey' : rd (stV V n) (yhatR (Fin.castSucc ⟨n, h8⟩)) = _ := ey
    rw [er', e1] at r1 r2 r3
    rw [er', ey', e1] at r4
    rw [hs]
    refine ⟨(layer_keep _ _ _ a0).trans e0, (layer_keep _ _ _ a1).trans e1, ?_, ?_, fun j hj => ?_⟩
    · rw [resV, dif_pos h8]; exact r3
    · rw [yhatV, dif_pos h8]; exact r4
    · rcases Nat.lt_succ_iff_lt_or_eq.mp hj with h | h
      · obtain ⟨f1, f2⟩ := aj j h
        exact ⟨(layer_keep _ _ _ f1).trans (ej j h).1, (layer_keep _ _ _ f2).trans (ej j h).2⟩
      · have hj' : j = ⟨n, h8⟩ := Fin.ext h
        subst hj'
        exact ⟨r1, r2⟩

/-- A column of indices as a one-column array. -/
def colV (i : IVec S65536 32) : IVec S65536x1 32 := broadcastInDim S65536x1 ![0] bcast_S65536_S65536x1_0 i
/-- A loss as a one-element array. -/
def oneV (l : FVec F S_ .f32) : FVec F S1 .f32 := broadcastInDim S1 ![] bcast_S_S1 l

/-- The index array, from the layers' residuals. -/
def indicesV (y : FVec F S65536x64 .f32) (cb : FVec F S8x1024x64 .f32) : IVec S65536x8 32 :=
  joinI (F := F) fun k => colV (idxL k (resV y cb k.val) cb)

/-- The losses, from the layers' residuals. -/
def lossesV (y : FVec F S65536x64 .f32) (cb : FVec F S8x1024x64 .f32) : FVec F S8 .f32 :=
  joinL fun k => oneV (lossV (rowsL k (resV y cb k.val) cb) (resV y cb k.val))

/-- The mean of the losses. -/
def meanV (l : FVec F S8 .f32) : FVec F S_ .f32 :=
  Host.divf (Host.reduceAdd l (constant S_ .f32 0x00000000#32) reducesTo_S8_S_d0 h_S_) (constant S_ .f32 0x41000000#32)

theorem head_read (V : Valuation τ sig (Elt F)) :
    rd (after headOps V) (yhatR 0) = yhatV (rd V (.of main_arg0)) (rd V (.of main_arg1)) 0 := by
  unfold rd; after_reads_simp; rfl
theorem head_keep (V : Valuation τ sig (Elt F)) {T : BufTy} (x : TRef sig T) (hx : x.ref ∉ [main_cst, main_v0]) :
    rd (after headOps V) x = rd V x := rd_keep [main_cst, main_v0] rfl V x hx

theorem idx_read (V : Valuation τ sig (Elt F)) : rd (after idxOps V) (.of main_v49 : TRef sig ⟨S65536x8, .i32⟩)
    = joinI (F := F) fun k => colV (rd V (bufs k).call0.v1_1) := by
  unfold rd; after_reads_simp; rfl
theorem losses_read (V : Valuation τ sig (Elt F)) : rd (after lossesOps V) (.of main_v58 : TRef sig ⟨S8, .f32⟩)
    = joinL fun k => oneV (rd V (bufs k).v20) := by
  unfold rd; after_reads_simp; rfl
theorem mean_read (V : Valuation τ sig (Elt F)) : rd (after meanOps V) (.of main_v60 : TRef sig ⟨S_, .f32⟩)
    = meanV (rd V (.of main_v58)) := by
  unfold rd; after_reads_simp; rfl

/-- The references the operations after the layers write. -/
def idxW : List (Ref sig .tc) := [main_v41, main_v42, main_v43, main_v44, main_v45, main_v46, main_v47, main_v48, main_v49]
@[inherit_doc idxW]
def lossesW : List (Ref sig .tc) := [main_v50, main_v51, main_v52, main_v53, main_v54, main_v55, main_v56, main_v57, main_v58]
@[inherit_doc idxW]
def meanW : List (Ref sig .tc) := [main_cst_0, main_v59, main_cst_1, main_v60]

theorem idx_keep (V : Valuation τ sig (Elt F)) {T : BufTy} (x : TRef sig T) (hx : x.ref ∉ idxW) :
    rd (after idxOps V) x = rd V x := rd_keep idxW rfl V x hx
theorem losses_keep (V : Valuation τ sig (Elt F)) {T : BufTy} (x : TRef sig T) (hx : x.ref ∉ lossesW) :
    rd (after lossesOps V) x = rd V x := rd_keep lossesW rfl V x hx
theorem mean_keep (V : Valuation τ sig (Elt F)) {T : BufTy} (x : TRef sig T) (hx : x.ref ∉ meanW) :
    rd (after meanOps V) x = rd V x := rd_keep meanW rfl V x hx

theorem ops_after (V : Valuation τ sig (Elt F)) :
    after ops V = after meanOps (after lossesOps (after idxOps (stV (after headOps V) 8))) := by
  rw [← body_after]
  unfold ops ops0
  simp only [after_append]

/-- The four results, and the arguments, once the reference has run. -/
theorem results (V : Valuation τ sig (Elt F)) :
    rd (after ops V) (.of main_v40 : TRef sig ⟨S65536x64, .f32⟩) = yhatV (rd V (.of main_arg0)) (rd V (.of main_arg1)) 8
    ∧ rd (after ops V) (.of main_v49 : TRef sig ⟨S65536x8, .i32⟩) = indicesV (rd V (.of main_arg0)) (rd V (.of main_arg1))
    ∧ rd (after ops V) (.of main_v60 : TRef sig ⟨S_, .f32⟩) = meanV (lossesV (rd V (.of main_arg0)) (rd V (.of main_arg1)))
    ∧ rd (after ops V) (.of main_v58 : TRef sig ⟨S8, .f32⟩) = lossesV (rd V (.of main_arg0)) (rd V (.of main_arg1))
    ∧ rd (after ops V) (.of main_arg0 : TRef sig ⟨S65536x64, .f32⟩) = rd V (.of main_arg0)
    ∧ rd (after ops V) (.of main_arg1 : TRef sig ⟨S8x1024x64, .f32⟩) = rd V (.of main_arg1) := by
  have hh := head_read V
  rw [← head_keep V (.of main_arg0) (by decide), ← head_keep V (.of main_arg1) (by decide)] at hh ⊢
  obtain ⟨e0, e1, -, ey, ej⟩ := st_read (after headOps V) hh 8 (by decide)
  have hl : ∀ j : Fin 8, (bufs j).v20.ref ∉ idxW := by decide
  have e58 : rd (after lossesOps (after idxOps (stV (after headOps V) 8))) (.of main_v58 : TRef sig ⟨S8, .f32⟩)
      = lossesV (rd (after headOps V) (.of main_arg0)) (rd (after headOps V) (.of main_arg1)) := by
    rw [losses_read]
    exact congrArg joinL (funext fun k => congrArg oneV ((idx_keep _ _ (hl k)).trans (ej k k.isLt).2))
  rw [ops_after]
  refine ⟨?_, ?_, ?_, ?_, ?_, ?_⟩
  · rw [mean_keep _ _ (by decide), losses_keep _ _ (by decide), idx_keep _ _ (by decide)]; exact ey
  · rw [mean_keep _ _ (by decide), losses_keep _ _ (by decide), idx_read]
    exact congrArg joinI (funext fun k => congrArg colV (ej k k.isLt).1)
  · rw [mean_read, e58]
  · rw [mean_keep _ _ (by decide), e58]
  · rw [mean_keep _ _ (by decide), losses_keep _ _ (by decide), idx_keep _ _ (by decide)]; exact e0
  · rw [mean_keep _ _ (by decide), losses_keep _ _ (by decide), idx_keep _ _ (by decide)]; exact e1

end Cert.Rvq.Ref

end
-- ==== Proof.RefLayer.lean ====
/- One layer of the reference over finite residuals. -/
module

public import proofs.«01_k».proof.Proof.RefRead
public import proofs.«01_k».proof.Proof.Losses
public import proofs.«01_k».proof.Proof.Slabs
public import Idealize.ShloMosaic.Lib.Routing.Ops

@[expose] public section

set_option maxRecDepth 16384

noncomputable section

namespace Cert.Rvq.Ref

open Cert.ReferenceIdeal Cert.ReferenceIdeal.Gen Idealize.ShloMosaic Idealize.ShloMosaic.TcCoe Idealize.SL.Sem

/-- An array holds real rows. -/
def RowsAre (x : FVec Ideal S65536x64 .f32) (R : ℕ → Row) : Prop := ∀ (b : Fin 65536) (d : Fin 64), x (ix2 b d) = ((R b.val d : ℝ) : EReal)
/-- An array holds a real codebook. -/
def BookIs (c : FVec Ideal S1024x64 .f32) (B : Book) : Prop := ∀ (v : Fin 1024) (d : Fin 64), c (ix2 v d) = ((B v d : ℝ) : EReal)

variable {x q : FVec Ideal S65536x64 .f32} {c : FVec Ideal S1024x64 .f32} {R Q : ℕ → Row} {B : Book}

/-- The distances. -/
theorem distV_eq (hx : RowsAre x R) (hc : BookIs c B) (b : Fin 65536) (v : Fin 1024) :
    distV x c (ix2 b v) = ((dist (R b.val) B v : ℝ) : EReal) := by
  unfold dist sq
  pointwise [distV]
  simp only [hx _ _, hc _ _, ofBits_two, ← EReal.coe_mul, ← coe_sum, ← EReal.coe_sub, ← EReal.coe_add]

/-- An entry's number is neither negative nor too large. -/
theorem in_range : ∀ v : Fin 1024, IntOp.cmpi .slt (BitVec.ofNat 32 v.val) 0#32 = 0#1
    ∧ IntOp.cmpi .sge (BitVec.ofNat 32 v.val) 0#32 = 1#1 ∧ IntOp.cmpi .sle (BitVec.ofNat 32 v.val) 1023#32 = 1#1 := by
  decide +kernel

/-- The start index of a gather is the index, if it is in range. -/
theorem wrapV_eq (i : IVec S65536 32) (b : Fin 65536) (v : Fin 1024) (h : i (ix1 b) = BitVec.ofNat 32 v.val) (z : Fin 1) :
    wrapV i (ix2 b z) = BitVec.ofNat 32 v.val := by
  pointwise [wrapV]
  rw [h, (in_range v).1]
  rfl

/-- The taken row. -/
theorem takeV_eq (hc : BookIs c B) (i : IVec S65536 32) (b : Fin 65536) (v : Fin 1024) (h : i (ix1 b) = BitVec.ofNat 32 v.val) (d : Fin 64) :
    takeV c i (ix2 b d) = ((B v d : ℝ) : EReal) := by
  have hw := wrapV_eq i b v h
  have hg : Host.gather gather_S1024x64_S65536x1_S65536x64_1_0_n_n_0_1_164 c (wrapV i) (ix2 b d) = ((B v d : ℝ) : EReal) :=
    (Routing.gather_row gather_S1024x64_S65536x1_S65536x64_1_0_n_n_0_1_164 rfl rfl rfl rfl rfl c (wrapV i) b d v (hw 0) (by norm_num)).trans (hc v d)
  pointwise [takeV]
  rw [hg]
  simp only [hw, (in_range v).2.1, (in_range v).2.2]
  rfl

theorem passV_eq (hq : RowsAre q Q) (hx : RowsAre x R) : RowsAre (passV q x) Q := fun b d => by
  pointwise [passV]
  rw [hq b d, hx b d, ← EReal.coe_sub, ← EReal.coe_add]
  congr 1; ring

/-- The loss of a layer. -/
theorem lossV_eq (hq : RowsAre q Q) (hx : RowsAre x R) : lossV q x ix0
    = (((∑ b ∈ Finset.range 65536, sq fun d => R b d - Q b d) / 4194304 : ℝ) : EReal) := by
  refine Eq.trans ?_ (loss_arith _)
  pointwise [lossV]
  simp only [hq _ _, hx _ _, ← EReal.coe_sub, ← EReal.coe_mul, ← coe_sum]
  rw [Finset.sum_range]
  have e : ∀ (b : ℕ), ∑ d, (Q b d - R b d) * (Q b d - R b d) = sq fun d => R b d - Q b d := fun b =>
    Finset.sum_congr rfl fun d _ => by ring
  simp only [e]

/-- A slab of the codebooks. -/
theorem bookV_eq (cb : FVec Ideal S8x1024x64 .f32) (k : Fin 8) (h : ∀ v d, cb (ix3 k v d) = ((B v d : ℝ) : EReal)) : BookIs (bookV k cb) B := fun v d => by
  refine Eq.trans ?_ (h v d)
  fin_cases k <;> pointwise [bookV, cut]

end Cert.Rvq.Ref
-- ==== Proof.Argmin.lean ====
/- The reference's argmin over the extended reals: the first index at which a row of finite numbers is least. -/
module

public import proofs.«01_k».proof.Proof.RefRead
public import proofs.«01_k».proof.Proof.Consts

@[expose] public section

set_option maxRecDepth 16384

noncomputable section

namespace Cert.Rvq.Ref

open Cert.ReferenceIdeal Cert.ReferenceIdeal.Gen Idealize.ShloMosaic Idealize.ShloMosaic.TcCoe Idealize.SL.Sem

variable (f : Fin 1024 → ℝ)

/-- Of two indices the one with the lesser value, the lesser index when the values are equal. -/
def better (a b : Fin 1024) : Fin 1024 := if f a < f b ∨ (f a = f b ∧ a < b) then a else b

/-- An index with its value, as the reduction holds it. -/
def pairOf (v : Fin 1024) : Ideal .f32 × BitVec 32 := (((f v : ℝ) : EReal), BitVec.ofNat 32 v.val)

theorem slt_lane (a b : Fin 1024) : (BitVec.ofNat 32 a.val).slt (BitVec.ofNat 32 b.val) = decide (a < b) := by
  have ha := a.isLt
  have hb := b.isLt
  have e : ∀ n : ℕ, n < 1024 → (BitVec.ofNat 32 n).toInt = (n : ℤ) := fun n hn => by
    rw [BitVec.toInt_eq_toNat_of_lt (by rw [BitVec.toNat_ofNat]; omega), BitVec.toNat_ofNat]; congr 1; omega
  rw [BitVec.slt_eq_decide, e _ ha, e _ hb, decide_eq_decide, Fin.lt_def]
  omega

/-- The reduction of two such pairs keeps the better. -/
theorem reducer_pair (a b : Fin 1024) :
    reducer_argmin_f32_i32 (F := Ideal) (pairOf f a) (pairOf f b) = pairOf f (better f a b) := by
  unfold reducer_argmin_f32_i32 pairOf better
  simp only [Ideal.cmpf_def, Ideal.cmp, IntOp.cmpi, Scalar.select, IntOp.ori, IntOp.andi, slt_lane, EReal.coe_lt_coe_iff, EReal.coe_eq_coe_iff]
  rcases lt_trichotomy (f a) (f b) with h | h | h
  · simp [h, h.ne]
  · by_cases hab : a < b <;> simp [h, hab]
  · simp [h.not_gt, h.ne']

/-- The reduction's initial pair gives way to any other. -/
theorem reducer_init (b : Fin 1024) : reducer_argmin_f32_i32 (F := Ideal) (⊤, 0#32) (pairOf f b) = pairOf f b := by
  unfold reducer_argmin_f32_i32 pairOf
  simp [Ideal.cmpf_def, Ideal.cmp, IntOp.cmpi, Scalar.select, IntOp.ori, IntOp.andi, slt_lane]

/-- `a` is at least as good as `b`. -/
def Good (a b : Fin 1024) : Prop := f a < f b ∨ (f a = f b ∧ a ≤ b)

theorem good_trans {a b c : Fin 1024} (h : Good f a b) (h' : Good f b c) : Good f a c := by
  unfold Good at *
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem good_better (a b : Fin 1024) : Good f (better f a b) a ∧ Good f (better f a b) b := by
  unfold Good better
  split
  · rename_i h; exact ⟨Or.inr ⟨rfl, le_rfl⟩, h.imp id fun h => ⟨h.1, h.2.le⟩⟩
  · rename_i h
    rw [not_or, not_and, not_lt] at h
    refine ⟨?_, Or.inr ⟨rfl, le_rfl⟩⟩
    rcases lt_or_eq_of_le h.1 with h1 | h1
    · exact Or.inl h1
    · exact Or.inr ⟨h1, not_lt.mp (h.2 h1.symm)⟩

/-- Folding over a list keeps an index as good as all of them. -/
theorem fold_pairs : ∀ (L : List (Fin 1024)) (w : Fin 1024), ∃ u, (L.map (pairOf f)).foldl (reducer_argmin_f32_i32 (F := Ideal)) (pairOf f w) = pairOf f u
    ∧ Good f u w ∧ ∀ v ∈ L, Good f u v
  | [], w => ⟨w, rfl, Or.inr ⟨rfl, le_rfl⟩, fun _ h => absurd h List.not_mem_nil⟩
  | b :: L, w => by
    obtain ⟨u, e, hw, hL⟩ := fold_pairs L (better f w b)
    refine ⟨u, ?_, good_trans f hw (good_better f w b).1, fun v hv => ?_⟩
    · rw [List.map_cons, List.foldl_cons, reducer_pair]; exact e
    · rcases List.mem_cons.mp hv with rfl | hv
      · exact good_trans f hw (good_better f w v).2
      · exact hL v hv

/-- An index as good as all others is the first least one. -/
theorem first_of_good (u : Fin 1024) (h : ∀ v, Good f u v) : u = first f := by
  obtain ⟨h1, h2⟩ := first_spec f
  rcases h (first f) with g | ⟨g, k⟩
  · exact absurd (h1 u) (not_le.mpr g)
  · rcases lt_or_eq_of_le k with k | k
    · exact absurd g (h2 u k).ne'
    · exact k

theorem fold_all (L : List (Fin 1024)) (h : ∀ v, v ∈ L) :
    (L.map (pairOf f)).foldl (reducer_argmin_f32_i32 (F := Ideal)) (⊤, 0#32) = pairOf f (first f) := by
  cases L with
  | nil => exact absurd (h 0) List.not_mem_nil
  | cons b L =>
    obtain ⟨u, e, hw, hL⟩ := fold_pairs f L b
    rw [List.map_cons, List.foldl_cons, reducer_init, e, ← first_of_good f u fun v => ?_]
    rcases List.mem_cons.mp (h v) with rfl | hv
    · exact hw
    · exact hL v hv

/-- The reduction of a row of finite values, each with its index, is the first least index with its value. -/
theorem argReduce_eq {s t u : Shape} {axes : List (Fin s.rank)} (h : s.ReducesTo axes t) (hu : 0 < u.numel) (d : FVec Ideal s .f32)
    (y : s.Idx → BitVec 32) (ix : u.Idx → Ideal .f32) (iy : u.Idx → BitVec 32) (j : t.Idx) (col : s.Idx → Fin 1024)
    (hd : ∀ i, h.drop i = j → d i = ((f (col i) : ℝ) : EReal)) (hy : ∀ i, y i = BitVec.ofNat 32 (col i).val)
    (hc : ∀ v, ∃ i, h.drop i = j ∧ col i = v) (hix : ix (Shape.Idx.first hu) = (⊤ : EReal)) (hiy : iy (Shape.Idx.first hu) = 0#32) :
    Host.argReduce reducer_argmin_f32_i32 d y ix iy h hu j = pairOf f (first f) := by
  rw [Ideal.argReduce_eq_reduce2, Host.reduce2_eq_foldl_fiber, hix, hiy]
  have hL : Host.argReduceFiber d y h j
      = (((List.finRange s.numel).filter fun n => h.drop (s.rowMajor.symm n) = j).map fun n => col (s.rowMajor.symm n)).map (pairOf f) := by
    unfold Host.argReduceFiber
    rw [List.map_map]
    exact List.map_congr_left fun n hn => Prod.ext (hd _ (of_decide_eq_true (List.mem_filter.mp hn).2)) (hy _)
  rw [hL]
  refine fold_all f _ fun v => ?_
  obtain ⟨i, e, rfl⟩ := hc v
  exact List.mem_map.mpr ⟨s.rowMajor i, List.mem_filter.mpr ⟨List.mem_finRange _, decide_eq_true (by rw [Equiv.symm_apply_apply]; exact e)⟩,
    by rw [Equiv.symm_apply_apply]⟩

theorem drop_row (i : S65536x1024.Idx) (b : Fin 65536) (h : reducesTo_S65536x1024_S65536_d1.drop i = ix1 b) : i = ix2 b (i 1) := by
  funext a
  fin_cases a
  · have := reducesTo_S65536x1024_S65536_d1.drop_apply_val_of_eq i 0 0
    rw [h] at this
    exact Fin.ext this.symm
  · rfl

theorem drop_row' (b : Fin 65536) (v : Fin 1024) : reducesTo_S65536x1024_S65536_d1.drop (ix2 b v) = ix1 b := by
  funext a
  fin_cases a
  exact Fin.ext (reducesTo_S65536x1024_S65536_d1.drop_apply_val_of_eq (ix2 b v) 0 0)

end Cert.Rvq.Ref
-- ==== Proof.ArgRow.lean ====
/- The reference's index of a row with finite distances. -/
module

public import proofs.«01_k».proof.Proof.Argmin

@[expose] public section

set_option maxRecDepth 16384

noncomputable section

namespace Cert.Rvq.Ref

open Cert.ReferenceIdeal Cert.ReferenceIdeal.Gen Idealize.ShloMosaic Idealize.ShloMosaic.TcCoe Idealize.SL.Sem

variable (f : Fin 1024 → ℝ)

theorem row_number (i : S65536x1024.Idx) : iotaInDim S65536x1024 32 1 i = BitVec.ofNat 32 ((i 1 : Fin 1024)).val := rfl

theorem inf_first : constant (F := Ideal) S_ .f32 0x7F800000#32 (Shape.Idx.first h_S_) = (⊤ : EReal) := ofBits_inf

theorem zero_first : constantI S_ 32 0#32 (Shape.Idx.first h_S_) = 0#32 := rfl

/-- The index array at a row whose distances are finite. -/
theorem pair_eq (d : FVec Ideal S65536x1024 .f32) (b : Fin 65536) (h : ∀ v, d (ix2 b v) = ((f v : ℝ) : EReal)) :
    Host.argReduce reducer_argmin_f32_i32 d (iotaInDim S65536x1024 32 1) (constant S_ .f32 0x7F800000#32)
    (constantI S_ 32 0#32) reducesTo_S65536x1024_S65536_d1 h_S_ (ix1 b) = pairOf f (first f) :=
  argReduce_eq f reducesTo_S65536x1024_S65536_d1 h_S_ d (iotaInDim S65536x1024 32 1) (constant S_ .f32 0x7F800000#32)
    (constantI S_ 32 0#32) (ix1 b) (fun i => (i 1 : Fin 1024)) (fun i hi => (congrArg d (drop_row i b hi)).trans (h _)) row_number
    (fun v => ⟨ix2 b v, drop_row' b v, rfl⟩) inf_first zero_first

/-- The index array, as a function (compared at an index, the pair itself would be evaluated). -/
theorem idxV_fun (d : FVec Ideal S65536x1024 .f32) : idxV d = fun j =>
    (Host.argReduce reducer_argmin_f32_i32 d (iotaInDim S65536x1024 32 1) (constant S_ .f32 0x7F800000#32)
    (constantI S_ 32 0#32) reducesTo_S65536x1024_S65536_d1 h_S_ j).2 := rfl

theorem pairOf_snd (v : Fin 1024) : (pairOf f v).2 = BitVec.ofNat 32 v.val := rfl

/-- The index array at a row whose distances are finite. -/
theorem idxV_eq (d : FVec Ideal S65536x1024 .f32) (b : Fin 65536) (h : ∀ v, d (ix2 b v) = ((f v : ℝ) : EReal)) :
    idxV d (ix1 b) = BitVec.ofNat 32 (first f).val :=
  (congrFun (idxV_fun d) (ix1 b)).trans ((congrArg Prod.snd (pair_eq f d b h)).trans (pairOf_snd f (first f)))

end Cert.Rvq.Ref
-- ==== Proof.RefIdeal.lean ====
/- The reference's four results, from finite arguments. -/
module

public import proofs.«01_k».proof.Proof.RefLayer
public import proofs.«01_k».proof.Proof.ArgRow

@[expose] public section

set_option maxRecDepth 16384

noncomputable section

namespace Cert.Rvq.Ref

open Cert.ReferenceIdeal Cert.ReferenceIdeal.Gen Idealize.ShloMosaic Idealize.ShloMosaic.TcCoe Idealize.SL.Sem

variable {y : FVec Ideal S65536x64 .f32} {cb : FVec Ideal S8x1024x64 .f32} {Y : ℕ → Row} {C : ℕ → Book}

/-- The arguments hold the real rows and codebooks. -/
structure InputsAre (y : FVec Ideal S65536x64 .f32) (cb : FVec Ideal S8x1024x64 .f32) (Y : ℕ → Row) (C : ℕ → Book) : Prop where
  rows : RowsAre y Y
  books : ∀ (n : ℕ) (v : Fin 1024) (d : Fin 64), cb (ix3 (layer n) v d) = ((C n v d : ℝ) : EReal)

section
variable (h : InputsAre y cb Y C)
include h

theorem book_is (k : Fin 8) : BookIs (bookV k cb) (C k.val) :=
  bookV_eq cb k fun v d => by
    have e : layer k.val = k := Fin.ext (Nat.mod_eq_of_lt k.isLt)
    have := h.books k.val v d
    rwa [e] at this

/-- A layer's index of a row. -/
theorem idxL_eq (k : Fin 8) {x : FVec Ideal S65536x64 .f32} (hx : RowsAre x fun b => res C (Y b) k.val) (b : Fin 65536) :
    idxL k x cb (ix1 b) = BitVec.ofNat 32 (code C (Y b.val) k.val).val :=
  idxV_eq (dist (res C (Y b.val) k.val) (C k.val)) _ b fun v => distV_eq hx (book_is h k) b v

/-- A layer's taken rows. -/
theorem rowsL_eq (k : Fin 8) {x : FVec Ideal S65536x64 .f32} (hx : RowsAre x fun b => res C (Y b) k.val) :
    RowsAre (rowsL k x cb) fun b => C k.val (code C (Y b) k.val) :=
  fun b d => takeV_eq (book_is h k) _ b _ (idxL_eq h k hx b) d

/-- The residuals and the running sums after `n` layers. -/
theorem layers_eq : ∀ n, n ≤ 8 → RowsAre (resV y cb n) (fun b => res C (Y b) n) ∧ RowsAre (yhatV y cb n) (fun b d => Y b d - res C (Y b) n d)
  | 0, _ => by
    refine ⟨h.rows, fun b d => ?_⟩
    pointwise [yhatV]
    simp [res]
  | n + 1, hn => by
    obtain ⟨hr, hy⟩ := layers_eq n (by omega)
    have hn' : n < 8 := hn
    have hp := passV_eq (rowsL_eq h ⟨n, hn'⟩ hr) hr
    have er : resV y cb (n + 1) = subf (resV y cb n) (passV (rowsL ⟨n, hn'⟩ (resV y cb n) cb) (resV y cb n)) := by rw [resV, dif_pos hn']
    have ey : yhatV y cb (n + 1) = addf (yhatV y cb n) (passV (rowsL ⟨n, hn'⟩ (resV y cb n) cb) (resV y cb n)) := by rw [yhatV, dif_pos hn']
    refine ⟨fun b d => ?_, fun b d => ?_⟩
    · rw [er]
      refine (congrArg₂ (fun p q : EReal => p - q) (hr b d) (hp b d)).trans ?_
      rw [← EReal.coe_sub]
      rfl
    · rw [ey]
      refine (congrArg₂ (fun p q : EReal => p + q) (hy b d) (hp b d)).trans ?_
      rw [← EReal.coe_add]
      congr 1
      simp only [res, next, code]
      ring

theorem yhat_eq : yhatV y cb 8 = yhatAns Y C := by
  funext x
  have e : x = ix2 (x 0) (x 1) := by funext i; match i with | 0 => rfl | 1 => rfl
  exact (congrArg (yhatV y cb 8) e).trans ((layers_eq h 8 le_rfl).2 _ _)

/-- A layer's loss. -/
theorem loss_eq (k : Fin 8) : lossV (rowsL k (resV y cb k.val) cb) (resV y cb k.val) ix0 = ((lossOf Y C k.val : ℝ) : EReal) :=
  lossV_eq (rowsL_eq h k (layers_eq h k.val (by omega)).1) (layers_eq h k.val (by omega)).1

end

theorem joinI_at (u : Fin 8 → IVec S65536x1 32) (b : Fin 65536) (k : Fin 8) : joinI (F := Ideal) u (ix2 b k) = u k (ix2 b 0) := by
  fin_cases k <;> pointwise [joinI]

theorem joinL_at (u : Fin 8 → FVec Ideal S1 .f32) (k : Fin 8) : joinL (F := Ideal) u (ix1 k) = u k (ix1 0) := by
  fin_cases k <;> pointwise [joinL]

theorem colV_at (i : IVec S65536 32) (b : Fin 65536) : colV i (ix2 b 0) = i (ix1 b) := by
  pointwise [colV]

theorem oneV_at (l : FVec Ideal S_ .f32) : oneV l (ix1 0) = l ix0 := by
  pointwise [oneV]

theorem indicesV_at (y : FVec Ideal S65536x64 .f32) (cb : FVec Ideal S8x1024x64 .f32) (b : Fin 65536) (k : Fin 8) :
    indicesV y cb (ix2 b k) = idxL k (resV y cb k.val) cb (ix1 b) :=
  (joinI_at (fun k => colV (idxL k (resV y cb k.val) cb)) b k).trans (colV_at (idxL k (resV y cb k.val) cb) b)

theorem lossesV_at (y : FVec Ideal S65536x64 .f32) (cb : FVec Ideal S8x1024x64 .f32) (k : Fin 8) :
    lossesV y cb (ix1 k) = lossV (rowsL k (resV y cb k.val) cb) (resV y cb k.val) ix0 :=
  (joinL_at (fun k => oneV (lossV (rowsL k (resV y cb k.val) cb) (resV y cb k.val))) k).trans
    (oneV_at (lossV (rowsL k (resV y cb k.val) cb) (resV y cb k.val)))

section
variable (h : InputsAre y cb Y C)
include h

theorem indices_eq : indicesV y cb = idxAns Y C := by
  funext x
  obtain ⟨b, k, rfl⟩ : ∃ (b : Fin 65536) (k : Fin 8), x = ix2 b k := ⟨x 0, x 1, by funext i; match i with | 0 => rfl | 1 => rfl⟩
  exact (indicesV_at y cb b k).trans (idxL_eq h k (layers_eq h k.val (Nat.le_of_lt k.isLt)).1 b)

theorem losses_eq : lossesV y cb = lossAns Y C := by
  funext x
  obtain ⟨k, rfl⟩ : ∃ k : Fin 8, x = ix1 k := ⟨x 0, by funext i; match i with | 0 => rfl⟩
  exact (lossesV_at y cb k).trans (loss_eq h k)

end

theorem mean_eq (Y : ℕ → Row) (C : ℕ → Book) : meanV (F := Ideal) (lossAns Y C) = meanAns Y C := by
  funext x
  refine Eq.trans ?_ (mean_arith fun k => lossOf Y C k.val)
  obtain rfl : x = ix0 := by funext i; exact i.elim0
  pointwise [meanV]
  rfl

end Cert.Rvq.Ref
-- ==== Proof.RefOut.lean ====
/- The reference's run: its results from finite arguments, its arguments, and its counters. -/
module

public import proofs.«01_k».proof.Proof.RefIdeal
public import Idealize.ShloMosaic.Lib.Claim

@[expose] public section

set_option maxRecDepth 16384

noncomputable section

namespace Cert.Rvq.Ref

open Cert.ReferenceIdeal Cert.ReferenceIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The arguments are unchanged and the counters end at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine (θ_run defs _ _).mono (fun r hr => ⟨fun c => ?_, sem_eq_zero_of_no_sems (by decide) r.2⟩) (run m ρ)
  obtain ⟨-, -, -, -, h0, h1⟩ := results (launchContents m c)
  exact ⟨(hr c main_arg0).trans h0, (hr c main_arg1).trans h1⟩

/-- The results. -/
theorem run_results (Y : Dev nD → ℕ → Row) (C : Dev nD → ℕ → Book)
    (h : ∀ c : Dev nD, InputsAre (m ((c.tc : Thread nD τ).loc main_arg0)) (m ((c.tc : Thread nD τ).loc main_arg1)) (Y c) (C c)) :
    θ_run defs (onTc (τ := τ) (main (F := Ideal))) ⟨m, fun _ => 0, ρ⟩ (fun r => ∀ c : Dev nD,
      r.2.mem ((c.tc : Thread nD τ).loc main_v40) = yhatAns (Y c) (C c)
      ∧ r.2.mem ((c.tc : Thread nD τ).loc main_v49) = idxAns (Y c) (C c)
      ∧ r.2.mem ((c.tc : Thread nD τ).loc main_v60) = meanAns (Y c) (C c)
      ∧ r.2.mem ((c.tc : Thread nD τ).loc main_v58) = lossAns (Y c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r hr c => ?_) (run m ρ)
  obtain ⟨e0, e1, e2, e3, h0, h1⟩ := results (launchContents m c)
  exact ⟨(hr c main_v40).trans (e0.trans (yhat_eq (h c))), (hr c main_v49).trans (e1.trans (indices_eq (h c))),
    (hr c main_v60).trans (e2.trans ((congrArg meanV (losses_eq (h c))).trans (mean_eq _ _))),
    (hr c main_v58).trans (e3.trans (losses_eq (h c))), (hr c main_arg0).trans h0, (hr c main_arg1).trans h1⟩

end Cert.Rvq.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.KernelOut
public import proofs.«01_k».proof.Proof.RefOut
public import Idealize.ShloMosaic.Adequacy
public import Idealize.ShloMosaic.Init

@[expose] public section

noncomputable section

namespace Cert.Proof

open Idealize.ShloMosaic Idealize.SL.Sem Cert.Rvq

attribute [local instance] preFacts

/-- The kernel leaves its arguments unchanged. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ
@[inherit_doc frame_ideal]
theorem frame_ideal_finite : Cert.quiescent_KernelIdeal_pre_finite := fun m ρ _ => Cert.KernelIdeal.Gen.frame m ρ

/-- So does the reference. -/
theorem frame_reference : Cert.quiescent_ReferenceIdeal := fun m ρ _ => Cert.Rvq.Ref.frame m ρ
@[inherit_doc frame_reference]
theorem frame_reference_finite : Cert.quiescent_ReferenceIdeal_pre_finite := fun m ρ _ => Cert.Rvq.Ref.frame m ρ

/-- From the same finite arguments the kernel and the reference end with the same four results. -/
theorem algebraic : Cert.algebraic_KernelIdeal_ReferenceIdeal_pre_finite := by
  intro m ρ m' ρ' hpre hagree
  have hk : ∀ c, ArgsAre m c (realRows (m ((c.tc : Thread Cert.KernelIdeal.nD Cert.KernelIdeal.τ).loc Cert.KernelIdeal.main_arg0)))
      (realBooks (m ((c.tc : Thread Cert.KernelIdeal.nD Cert.KernelIdeal.τ).loc Cert.KernelIdeal.main_arg1))) := fun c =>
    ⟨realRows_eq _ (real_of_pre _ _ (hpre c)).1, realBooks_eq _ (real_of_pre _ _ (hpre c)).2⟩
  refine ⟨_, _, _, _, Cert.Rvq.run_results m ρ _ _ hk, Cert.Rvq.Ref.run_results m' ρ' _ _ fun c => ?_⟩
  rw [(hagree c).1, (hagree c).2]
  exact ⟨(hk c).rows, (hk c).books⟩

/-- Everything claimed. -/
theorem claim : Cert.Claim :=
  ⟨Cert.Kernel.Gen.facts, Cert.KernelIdeal.Gen.facts, Cert.ReferenceIdeal.Gen.facts, preFacts,
    frame_kernel, frame_ideal, frame_ideal_finite, frame_reference, frame_reference_finite, trivial, algebraic⟩

end Cert.Proof

end
